-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 512, 64, 64]⟩ ⟨4, ![2, 4096, 64, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 64, 64]⟩ ⟨4, ![2, 4096, 64, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x64x64 : S_.BroadcastsInDim S2x512x64x64 (![] : Fin 0 → Fin S2x512x64x64.rank)
  reducesTo_S2x512x64x64_S_d0_1_2_3 : S2x512x64x64.ReducesTo [0, 1, 2, 3] S_

variable [Facts]

def fn {F : FTy → Type} [FloatOps F] (main_arg0 : FVec F S2x512x768 .f32) (main_arg1 : FVec F S768x512 .f32) (main_arg2 : FVec F S2x512x64x64 .f32) (main_arg3 : FVec F S2x512x64x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x64x64 .f32 := Host.absf main_arg2
  let main_cst_2 : FVec F S_ .f32 := constant S_ .f32 0x7F800000#32
  let main_v10 : FVec F S2x512x64x64 .f32 := broadcastInDim S2x512x64x64 ![] bcast_S_S2x512x64x64 main_cst_2
  let main_v11 : IVec S2x512x64x64 1 := cmpf .olt main_v9 main_v10
  let main_c_3 : IVec S_ 1 := constantI S_ 1 1#1
  let main_v12 : IVec S_ 1 := (fun x v => Host.reduce IntOp.andi x v reducesTo_S2x512x64x64_S_d0_1_2_3 h_S_) main_v11 main_c_3
  let main_v13 : IVec S_ 1 := andi main_v8 main_v12
  main_v13
-- ==== Pre_scores_finite_ReferenceIdeal.lean ====
abbrev S2x512x768 : Shape := ⟨3, ![2, 512, 768]⟩
abbrev S768x4096 : Shape := ⟨2, ![768, 4096]⟩
abbrev S2x4096x64x64 : Shape := ⟨4, ![2, 4096, 64, 64]⟩
abbrev S4096x768 : Shape := ⟨2, ![4096, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S2x4096x64x64 : S_.BroadcastsInDim S2x4096x64x64 (![] : Fin 0 → Fin S2x4096x64x64.rank)
  reducesTo_S2x4096x64x64_S_d0_1_2_3 : S2x4096x64x64.ReducesTo [0, 1, 2, 3] S_

variable [Facts]

def fn {F : FTy → Type} [FloatOps F] (main_arg0 : FVec F S2x512x768 .f32) (main_arg1 : FVec F S768x4096 .f32) (main_arg2 : FVec F S2x4096x64x64 .f32) (main_arg3 : FVec F S2x4096x64x64 .f32) (main_arg4 : FVec F S4096x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x4096 .f32 := Host.absf main_arg1
  let main_cst_0 : FVec F S_ .f32 := constant S_ .f32 0x7F800000#32
  let main_v5 : FVec F S768x4096 .f32 := broadcastInDim S768x4096 ![] bcast_S_S768x4096 main_cst_0
  let main_v6 : IVec S768x4096 1 := cmpf .olt main_v4 main_v5
  let main_c_1 : IVec S_ 1 := constantI S_ 1 1#1
  let main_v7 : IVec S_ 1 := (fun x v => Host.reduce IntOp.andi x v reducesTo_S768x4096_S_d0_1 h_S_) main_v6 main_c_1
  let main_v8 : IVec S_ 1 := andi main_v3 main_v7
  let main_v9 : FVec F S2x4096x64x64 .f32 := Host.absf main_arg2
  let main_cst_2 : FVec F S_ .f32 := constant S_ .f32 0x7F800000#32
  let main_v10 : FVec F S2x4096x64x64 .f32 := broadcastInDim S2x4096x64x64 ![] bcast_S_S2x4096x64x64 main_cst_2
  let main_v11 : IVec S2x4096x64x64 1 := cmpf .olt main_v9 main_v10
  let main_c_3 : IVec S_ 1 := constantI S_ 1 1#1
  let main_v12 : IVec S_ 1 := (fun x v => Host.reduce IntOp.andi x v reducesTo_S2x4096x64x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S2x512x8x64 : Shape := ⟨4, ![2, 512, 8, 64]⟩
abbrev S2x512x512 : Shape := ⟨3, ![2, 512, 512]⟩
abbrev S3x2x512x768 : Shape := ⟨4, ![3, 2, 512, 768]⟩
abbrev S7x2 : Shape := ⟨2, ![7, 2]⟩
abbrev S2 : Shape := ⟨1, ![2]⟩
abbrev S3 : Shape := ⟨1, ![3]⟩
abbrev S_ : Shape := ⟨0, ![]⟩
abbrev S1 : Shape := ⟨1, ![1]⟩
abbrev S1x1 : Shape := ⟨2, ![1, 1]⟩
abbrev S1x512x768 : Shape := ⟨3, ![1, 512, 768]⟩
abbrev S512x512 : Shape := ⟨2, ![512, 512]⟩
abbrev S1x512x512 : Shape := ⟨3, ![1, 512, 512]⟩
abbrev S1x512x64 : Shape := ⟨3, ![1, 512, 64]⟩
abbrev S512x64 : Shape := ⟨2, ![512, 64]⟩
abbrev S1x512x1x64 : Shape := ⟨4, ![1, 512, 1, 64]⟩
abbrev S512 : Shape := ⟨1, ![512]⟩
abbrev S512x1 : Shape := ⟨2, ![512, 1]⟩
abbrev S1x2x512x768 : Shape := ⟨4, ![1, 2, 512, 768]⟩

abbrev nBuf : Space → Nat
  | .hbm => 6
  | .vmem => 9
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x64x64, .f32⟩
  | .hbm, ⟨3, _⟩ => ⟨S2x512x64x64, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S512x768, .f32⟩
  | .local _ .vmem, ⟨3, _⟩ => ⟨S2x512x768, .f32⟩
  | .local _ .vmem, ⟨4, _⟩ => ⟨S2x512x8x64, .f32⟩
  | .local _ .vmem, ⟨5, _⟩ => ⟨S2x512x8x64, .f32⟩
  | .local _ .vmem, ⟨6, _⟩ => ⟨S2x512x512, .f32⟩
  | .local _ .vmem, ⟨7, _⟩ => ⟨S2x512x512, .f32⟩
  | .local _ .vmem, ⟨8, _⟩ => ⟨S3x2x512x768, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_26 : BitVec 32 := 0#32
  let v20 : BitVec 1 := Scalar.cmpi .eq v2 c0_i32_26
  let v21 : BitVec 32 := Scalar.extui v20
  let c0_i32_27 : BitVec 32 := 0#32
  let v22 : BitVec 1 := Scalar.cmpi .ne v21 c0_i32_27
  v22

def k0_dev9 : Nat :=
  let c0_i32_502 : BitVec 32 := 0#32
  let c1_i32_500 : BitVec 32 := 1#32
  let c1_i32_501 : BitVec 32 := 1#32
  let v577 : BitVec 32 := Scalar.muli c1_i32_500 c1_i32_501
  let v578 : BitVec 32 := Scalar.addi c0_i32_502 v577
  v578.toNat
def k0_dev10 : Nat :=
  let c0_i32_512 : BitVec 32 := 0#32
  let c1_i32_510 : BitVec 32 := 1#32
  let c1_i32_511 : BitVec 32 := 1#32
  let v584 : BitVec 32 := Scalar.muli c1_i32_510 c1_i32_511
  let v585 : BitVec 32 := Scalar.addi c0_i32_512 v584
  v585.toNat
def k0_dev11 : Nat :=
  let c0_i32_522 : BitVec 32 := 0#32
  let c2_i32_520 : BitVec 32 := 2#32
  let c1_i32_521 : BitVec 32 := 1#32
  let v591 : BitVec 32 := Scalar.muli c2_i32_520 c1_i32_521
  let v592 : BitVec 32 := Scalar.addi c0_i32_522 v591
  v592.toNat
def k0_dev12 : Nat :=
  let c0_i32_531 : BitVec 32 := 0#32
  let c2_i32_529 : BitVec 32 := 2#32
  let c1_i32_530 : BitVec 32 := 1#32
  let v598 : BitVec 32 := Scalar.muli c2_i32_529 c1_i32_530
  let v599 : BitVec 32 := Scalar.addi c0_i32_531 v598
  v599.toNat
def k0_dev13 : Nat :=
  let c0_i32_541 : BitVec 32 := 0#32
  let c3_i32_539 : BitVec 32 := 3#32
  let c1_i32_540 : BitVec 32 := 1#32
  let v605 : BitVec 32 := Scalar.muli c3_i32_539 c1_i32_540
  let v606 : BitVec 32 := Scalar.addi c0_i32_541 v605
  v606.toNat
def k0_dev14 : Nat :=
  let c0_i32_550 : BitVec 32 := 0#32
  let c3_i32_548 : BitVec 32 := 3#32
  let c1_i32_549 : BitVec 32 := 1#32
  let v612 : BitVec 32 := Scalar.muli c3_i32_548 c1_i32_549
  let v613 : BitVec 32 := Scalar.addi c0_i32_550 v612
  v613.toNat
def k0_dev15 : Nat :=
  let c0_i32_560 : BitVec 32 := 0#32
  let c4_i32_558 : BitVec 32 := 4#32
  let c1_i32_559 : BitVec 32 := 1#32
  let v619 : BitVec 32 := Scalar.muli c4_i32_558 c1_i32_559
  let v620 : BitVec 32 := Scalar.addi c0_i32_560 v619
  v620.toNat
def k0_dev16 : Nat :=
  let c0_i32_569 : BitVec 32 := 0#32
  let c4_i32_567 : BitVec 32 := 4#32
  let c1_i32_568 : BitVec 32 := 1#32
  let v626 : BitVec 32 := Scalar.muli c4_i32_567 c1_i32_568
  let v627 : BitVec 32 := Scalar.addi c0_i32_569 v626
  v627.toNat
def k0_dev17 : Nat :=
  let c0_i32_579 : BitVec 32 := 0#32
  let c5_i32_577 : BitVec 32 := 5#32
  let c1_i32_578 : BitVec 32 := 1#32
  let v633 : BitVec 32 := Scalar.muli c5_i32_577 c1_i32_578
  let v634 : BitVec 32 := Scalar.addi c0_i32_579 v633
  v634.toNat
def k0_dev18 : Nat :=
  let c0_i32_588 : BitVec 32 := 0#32
  let c5_i32_586 : BitVec 32 := 5#32
  let c1_i32_587 : BitVec 32 := 1#32
  let v640 : BitVec 32 := Scalar.muli c5_i32_586 c1_i32_587
  let v641 : BitVec 32 := Scalar.addi c0_i32_588 v640
  v641.toNat
def k0_dev19 : Nat :=
  let c0_i32_598 : BitVec 32 := 0#32
  let c6_i32_596 : BitVec 32 := 6#32
  let c1_i32_597 : BitVec 32 := 1#32
  let v647 : BitVec 32 := Scalar.muli c6_i32_596 c1_i32_597
  let v648 : BitVec 32 := Scalar.addi c0_i32_598 v647
  v648.toNat
def k0_dev20 : Nat :=
  let c0_i32_607 : BitVec 32 := 0#32
  let c6_i32_605 : BitVec 32 := 6#32
  let c1_i32_606 : BitVec 32 := 1#32
  let v654 : BitVec 32 := Scalar.muli c6_i32_605 c1_i32_606
  let v655 : BitVec 32 := Scalar.addi c0_i32_607 v654
  v655.toNat
def k0_dev21 : Nat :=
  let c0_i32_617 : BitVec 32 := 0#32
  let c7_i32_615 : BitVec 32 := 7#32
  let c1_i32_616 : BitVec 32 := 1#32
  let v661 : BitVec 32 := Scalar.muli c7_i32_615 c1_i32_616
  let v662 : BitVec 32 := Scalar.addi c0_i32_617 v661
  v662.toNat
def k0_dev22 : Nat :=
  let c0_i32_626 : BitVec 32 := 0#32
  let c7_i32_624 : BitVec 32 := 7#32
  let c1_i32_625 : BitVec 32 := 1#32
  let v668 : BitVec 32 := Scalar.muli c7_i32_624 c1_i32_625
  let v669 : BitVec 32 := Scalar.addi c0_i32_626 v668
  v669.toNat
def k0_dev23 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_385 : BitVec 32 := 1#32
  let v496 : BitVec 32 := Scalar.xori v2 c1_i32_385
  let c1_i32_389 : BitVec 32 := 1#32
  let v497 : BitVec 32 := Scalar.muli v496 c1_i32_389
  let v498 : BitVec 32 := Scalar.addi c0_i32_390 v497
  v498.toNat
def k0_dev24 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_419 : BitVec 32 := 3#32
  let v521 : BitVec 32 := Scalar.xori v2 c3_i32_419
  let c1_i32_423 : BitVec 32 := 1#32
  let v522 : BitVec 32 := Scalar.muli v521 c1_i32_423
  let v523 : BitVec 32 := Scalar.addi c0_i32_424 v522
  v523.toNat
def k0_dev25 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_453 : BitVec 32 := 4#32
  let v546 : BitVec 32 := Scalar.xori v2 c4_i32_453
  let c1_i32_457 : BitVec 32 := 1#32
  let v547 : BitVec 32 := Scalar.muli v546 c1_i32_457
  let v548 : BitVec 32 := Scalar.addi c0_i32_458 v547
  v548.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x4096 : Shape := ⟨2, ![768, 4096]⟩
abbrev S2x4096x64x64 : Shape := ⟨4, ![2, 4096, 64, 64]⟩
abbrev S4096x768 : Shape := ⟨2, ![4096, 768]⟩
abbrev S2x512x4096 : Shape := ⟨3, ![2, 512, 4096]⟩
abbrev S2x512x64x64 : Shape := ⟨4, ![2, 512, 64, 64]⟩
abbrev S512 : Shape := ⟨1, ![512]⟩
abbrev S_ : Shape := ⟨0, ![]⟩
abbrev S512x1 : Shape := ⟨2, ![512, 1]⟩
abbrev S4096 : Shape := ⟨1, ![4096]⟩
abbrev S1x4096 : Shape := ⟨2, ![1, 4096]⟩
abbrev S512x4096 : Shape := ⟨2, ![512, 4096]⟩
abbrev S2x64x512x4096 : Shape := ⟨4, ![2, 64, 512, 4096]⟩
abbrev S1x1x512x4096 : Shape := ⟨4, ![1, 1, 512, 4096]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 89
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x4096, .f32⟩
  | .hbm, ⟨2, _⟩ => ⟨S2x4096x64x64, .f32⟩
  | .hbm, ⟨3, _⟩ => ⟨S2x4096x64x64, .f32⟩
  | .hbm, ⟨4, _⟩ => ⟨S4096x768, .f32⟩
  | .hbm, ⟨5, _⟩ => ⟨S2x512x4096, .f32⟩
  | .hbm, ⟨6, _⟩ => ⟨S2x512x64x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S512x4096, .i32⟩
  | .hbm, ⟨48, _⟩ => ⟨S512x4096, .i32⟩
  | .hbm, ⟨49, _⟩ => ⟨S512x4096, .i1⟩
  | .hbm, ⟨50, _⟩ => ⟨S2x64x512x4096, .f32⟩
  | .hbm, ⟨51, _⟩ => ⟨S_, .f32⟩
  | .hbm, ⟨52, _⟩ => ⟨S2x64x512x4096, .f32⟩
  | .hbm, ⟨53, _⟩ => ⟨S2x64x512x4096, .f32⟩
  | .hbm, ⟨54, _⟩ => ⟨S1x1x512x4096, .i1⟩
  | .hbm, ⟨55, _⟩ => ⟨S_, .f32⟩
  | .hbm, ⟨56, _⟩ => ⟨S_, .f32⟩
  | .hbm, ⟨57, _⟩ => ⟨S2x64x512x4096, .i1⟩
  | .hbm, ⟨58, _⟩ => ⟨S2x64x512x4096, .f32⟩
  | .hbm, ⟨59, _⟩ => ⟨S2x64x512x4096, .f32⟩
  | .hbm, ⟨60, _⟩ => ⟨S_, .f32⟩
  | .hbm, ⟨61, _⟩ => ⟨S2x64x512, .f32⟩
  | .hbm, ⟨62, _⟩ => ⟨S2x64x512x1, .f32⟩
  | .hbm, ⟨63, _⟩ => ⟨S2x64x512x4096, .f32⟩
  | .hbm, ⟨64, _⟩ => ⟨S2x64x512x4096, .f32⟩
  | .hbm, ⟨65, _⟩ => ⟨S2x64x512x4096, .f32⟩
  | .hbm, ⟨66, _⟩ => ⟨S_, .i1⟩
  | .hbm, ⟨67, _⟩ => ⟨S512, .i1⟩
  | .hbm, ⟨68, _⟩ => ⟨S1x1x512x1, .i1⟩
  | .hbm, ⟨69, _⟩ => ⟨S_, .f32⟩
  | .hbm, ⟨70, _⟩ => ⟨S2x64x512, .f32⟩
  | .hbm, ⟨71, _⟩ => ⟨S2x64x512x1, .f32⟩
  | .hbm, ⟨72, _⟩ => ⟨S_, .f32⟩
  | .hbm, ⟨73, _⟩ => ⟨S_, .f32⟩
  | .hbm, ⟨74, _⟩ => ⟨S2x64x512x1, .i1⟩
  | .hbm, ⟨75, _⟩ => ⟨S2x64x512x1, .f32⟩
  | .hbm, ⟨76, _⟩ => ⟨S2x64x512x1, .f32⟩
  | .hbm, ⟨77, _⟩ => ⟨S2x64x512x4096, .f32⟩
  | .hbm, ⟨78, _⟩ => ⟨S2x64x512x4096, .f32⟩
  | .hbm, ⟨79, _⟩ => ⟨S1x1x512x1, .i1⟩
  | .hbm, ⟨80, _⟩ => ⟨S_, .f32⟩
  | .hbm, ⟨81, _⟩ => ⟨S_, .f32⟩
  | .hbm, ⟨82, _⟩ => ⟨S2x64x512x4096, .i1⟩
  | .hbm, ⟨83, _⟩ => ⟨S2x64x512x4096, .f32⟩
  | .hbm, ⟨84, _⟩ => ⟨S2x64x512x4096, .f32⟩
  | .hbm, ⟨85, _⟩ => ⟨S2x64x64x512, .f32⟩
  | .hbm, ⟨86, _⟩ => ⟨S2x512x64x64, .f32⟩
  | .hbm, ⟨87, _⟩ => ⟨S2x512x4096, .f32⟩
  | .hbm, ⟨88, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Common.lean ====
/-
# The protocol of the kernel: its semaphores, what each of them hands over, and in which order

Eight devices. Device 0 owns the key/value rows that the causal mask leaves visible and scatters their head slices;
then each device attends over its own eight heads, projects, and the partial outputs are summed by a butterfly
over the partners `c ^ 1`, `c ^ 3`, `c ^ 4`.

* barrier (one per device, regular): every device signals every device, itself included, by one and waits for eight.
  The signal of `p` at `d` hands over what `d` writes on `p`: at device 0 the key and value buffers of `p ≠ 0`; at
  the partner of round `r` the landing slot `r` of `p`.
* `recv j` (devices other than 0): device 0's copy of slice `d` of the keys (`j = 0`) or values (`j = 1`) landed.
* `scat i j` (device 0): the source region of that copy comes back.
* `loc j` (device 0): its own slice landed and the source region is back.
* `rsend r`, `rrecv r`: round `r` of the butterfly; the output window comes back, the partner's partial sum landed.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- The kernel's own transfer semaphores. -/
inductive OKey where
  | scat (i : Fin 7) (j : Fin 2)
  | recv (j : Fin 2)
  | rsend (r : Fin 3)
  | rrecv (r : Fin 3)
  | loc (j : Fin 2)
  deriving DecidableEq

/-- All of them, listed. -/
def OKey.all : List OKey :=
  [.scat 0 0, .scat 0 1, .scat 1 0, .scat 1 1, .scat 2 0, .scat 2 1, .scat 3 0, .scat 3 1, .scat 4 0, .scat 4 1,
   .scat 5 0, .scat 5 1, .scat 6 0, .scat 6 1, .recv 0, .recv 1, .rsend 0, .rsend 1, .rsend 2,
   .rrecv 0, .rrecv 1, .rrecv 2, .loc 0, .loc 1]

theorem OKey.all_nodup : OKey.all.Nodup := by decide

theorem OKey.mem_all (k : OKey) : k ∈ OKey.all.toFinset := by
  rw [List.mem_toFinset]
  rcases k with ⟨i, j⟩ | j | r | r | j
  · fin_cases i <;> fin_cases j <;> decide
  · fin_cases j <;> decide
  · fin_cases r <;> decide
  · fin_cases r <;> decide
  · fin_cases j <;> decide

instance : Fintype OKey := ⟨OKey.all.toFinset, OKey.mem_all⟩

/-- A semaphore of the protocol: the barrier (`none`) or one of the kernel's own. -/
abbrev Key : Type := Option OKey

/-- The runtime's barrier semaphore. -/
abbrev barS : Sem sig := (SemArray.scalar (sig.barrier 0 rfl) : Sems sig S_).sem

/-- Which transfer semaphore each key is. -/
def oidx : OKey → ℕ
  | .scat i j => 4 + 2 * i.val + j.val
  | .recv j => 18 + j.val
  | .rsend r => 20 + r.val
  | .rrecv r => 23 + r.val
  | .loc j => 26 + j.val

theorem oidx_lt (k : OKey) : oidx k < 28 := by
  rcases k with ⟨i, j⟩ | j | r | r | j <;> dsimp only [oidx] <;> omega

def osem (k : OKey) : SemLoc sig := .dma (⟨oidx k, oidx_lt k⟩ : DmaSem sig)

def csem : Key → SemLoc sig
  | none => .reg barS
  | some k => osem k

theorem oidx_inj : Function.Injective oidx := by decide

theorem csem_inj : Function.Injective csem := by
  intro a b h
  rcases a with _ | a <;> rcases b with _ | b
  · rfl
  · cases h
  · cases h
  · refine congrArg some (oidx_inj ?_)
    have h' : (⟨oidx a, oidx_lt a⟩ : DmaSem sig) = ⟨oidx b, oidx_lt b⟩ := by
      injection h
    exact congrArg Fin.val h'

/-- The key of a semaphore, if the protocol uses it. -/
def keyOf (s : SemLoc sig) : Option Key :=
  if h : ∃ k, csem k = s then some h.choose else none

theorem keyOf_csem (k : Key) : keyOf (csem k) = some k := by
  unfold keyOf
  have h : ∃ k', csem k' = csem k := ⟨k, rfl⟩
  rw [dif_pos h]
  exact congrArg some (csem_inj h.choose_spec)

/-- A device and a key: a cell. -/
abbrev CK : Type := Dev nD × Key
def kcell (ck : CK) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : k = k' := csem_inj (congrArg Prod.snd h)
  rw [h1, h2]

/-! ## The devices -/

/-- The partner's offset of round `r`. -/
def fl : ℕ → ℕ
  | 0 => 1
  | 1 => 3
  | _ => 4

set_option backward.proofsInPublic true in
/-- The partner of `c` in round `r` of the butterfly. -/
def prt (r : ℕ) (c : Dev nD) : Dev nD := ⟨(c.val ^^^ fl r) % 8, Nat.mod_lt _ (by decide)⟩

theorem prt_prt (r : Fin 3) (c : Dev nD) : prt r (prt r c) = c := by revert r c; decide
theorem prt_inj (r : Fin 3) {c d : Dev nD} (h : c = prt r d) : d = prt r c := by rw [h, prt_prt]

theorem dev23_eq (c : Dev nD) : (⟨k0_dev23 c, k0_dev23_lt c⟩ : Dev nD) = prt 0 c := by revert c; decide +kernel
theorem dev24_eq (c : Dev nD) : (⟨k0_dev24 c, k0_dev24_lt c⟩ : Dev nD) = prt 1 c := by revert c; decide +kernel
theorem dev25_eq (c : Dev nD) : (⟨k0_dev25 c, k0_dev25_lt c⟩ : Dev nD) = prt 2 c := by revert c; decide +kernel

/-! ## The memrefs -/

abbrev xM : Memref sig .tc .vmem S2x512x768 .f32 := Memref.whole cc0_stg0_0
abbrev wqM : Memref sig .tc .vmem S768x512 .f32 := Memref.whole cc0_stg1_0
abbrev woM : Memref sig .tc .vmem S512x768 .f32 := Memref.whole cc0_stg2_0
abbrev oM : Memref sig .tc .vmem S2x512x768 .f32 := Memref.whole cc0_stg3_0
abbrev k0M : Memref sig .tc .hbm S2x512x64x64 .f32 := Memref.whole main_arg2
abbrev v0M : Memref sig .tc .hbm S2x512x64x64 .f32 := Memref.whole main_arg3
abbrev kM : Memref sig .tc .vmem S2x512x8x64 .f32 := Memref.whole cc0_scratch0
abbrev vM : Memref sig .tc .vmem S2x512x8x64 .f32 := Memref.whole cc0_scratch1
abbrev qM : Memref sig .tc .vmem S2x512x512 .f32 := Memref.whole cc0_scratch2
abbrev ctxM : Memref sig .tc .vmem S2x512x512 .f32 := Memref.whole cc0_scratch3
abbrev cmM : Memref sig .tc .vmem S3x2x512x768 .f32 := Memref.whole cc0_scratch4

set_option backward.proofsInPublic true in
theorem src_inb (d : Dev nD) : ∀ a, (![0, 0, 8 * d.val, 0] : Fin 4 → ℕ) a + S2x512x8x64.size a ≤ S2x512x64x64.size a := by
  revert d; decide

/-- The head slice `d` of the keys, and of the values, in the operand in high-bandwidth memory. -/
abbrev kSrc (d : Dev nD) : Memref sig .tc .hbm S2x512x8x64 .f32 :=
  k0M.slice (Rect.unit (s := S2x512x64x64) ![0, 0, 8 * d.val, 0] S2x512x8x64.size (src_inb d)) (fun _ => rfl)
abbrev vSrc (d : Dev nD) : Memref sig .tc .hbm S2x512x8x64 .f32 :=
  v0M.slice (Rect.unit (s := S2x512x64x64) ![0, 0, 8 * d.val, 0] S2x512x8x64.size (src_inb d)) (fun _ => rfl)

set_option backward.proofsInPublic true in
theorem cm_inb (r : Fin 3) : ∀ a, (![r.val, 0, 0, 0] : Fin 4 → ℕ) a + S1x2x512x768.size a ≤ S3x2x512x768.size a := by
  revert r; decide

/-- Slot `r` of the landing buffer. -/
abbrev cmS (r : Fin 3) : Memref sig .tc .vmem S2x512x768 .f32 :=
  (cmM.slice (Rect.unit (s := S3x2x512x768) ![r.val, 0, 0, 0] S1x2x512x768.size (cm_inb r)) (fun _ => rfl)).squeeze
    S2x512x768 squeezes_S1x2x512x768_S2x512x768

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev OutC (F : FTy → Type) : Type := FVec F S2x512x768 .f32
abbrev KvC (F : FTy → Type) : Type := FVec F S2x512x8x64 .f32

abbrev dev0 : Dev nD := ⟨0, by decide⟩

/-- Slice `d` of device 0's keys and values. -/
def kSlice (d : Dev nD) : KvC F := (kSrc d).view.read (Elt F) (m ((dev0 : Thread nD τ).loc main_arg2))
def vSlice (d : Dev nD) : KvC F := (vSrc d).view.read (Elt F) (m ((dev0 : Thread nD τ).loc main_arg3))

variable (a0 : Dev nD → OutC F)

/-- The partial sum on device `c` before round `r`. -/
def acc (a0 : Dev nD → OutC F) : ℕ → Dev nD → OutC F
  | 0, c => a0 c
  | r + 1, c => addf (acc a0 r c) (acc a0 r (prt r c))

/-! ## What is handed over -/

/-- The key buffer, the value buffer, the output window of `c`, whole. -/
def kPts (c : Dev nD) (f : KvC F) : sProp 𝕄 := kM.view.loc (c : Thread nD τ) ↦[kM.view.set]{fullShare} f
def vPts (c : Dev nD) (f : KvC F) : sProp 𝕄 := vM.view.loc (c : Thread nD τ) ↦[vM.view.set]{fullShare} f
def oPts (c : Dev nD) (f : OutC F) : sProp 𝕄 := oM.view.loc (c : Thread nD τ) ↦[oM.view.set]{fullShare} f
/-- Slot `r` of the landing buffer of `c`, at some contents; and holding `w`. -/
def cmAny (c : Dev nD) (r : Fin 3) : sProp 𝕄 :=
  iprop(∃ f : Buf (Elt F) ((cmS r).view.loc (c : Thread nD τ)), (cmS r).view.loc (c : Thread nD τ) ↦[(cmS r).view.set]{fullShare} f)
def cmHas (c : Dev nD) (r : Fin 3) (w : OutC F) : sProp 𝕄 :=
  iprop(∃ f : Buf (Elt F) ((cmS r).view.loc (c : Thread nD τ)), ⌜(cmS r).view.read (Elt F) f = w⌝
    ∗ (cmS r).view.loc (c : Thread nD τ) ↦[(cmS r).view.set]{fullShare} f)
/-- Region `d` of device 0's key operand, of its value operand. -/
def srcK (d : Dev nD) : sProp 𝕄 :=
  (kSrc d).view.loc (dev0 : Thread nD τ) ↦[(kSrc d).view.set]{fullShare} (m ((dev0 : Thread nD τ).loc main_arg2))
def srcV (d : Dev nD) : sProp 𝕄 :=
  (vSrc d).view.loc (dev0 : Thread nD τ) ↦[(vSrc d).view.set]{fullShare} (m ((dev0 : Thread nD τ).loc main_arg3))

/-- What device `p`'s signal at device `d`'s barrier hands over. -/
def barKv (d p : Dev nD) : sProp 𝕄 :=
  if d = dev0 ∧ p ≠ dev0 then iprop((∃ f : KvC F, kPts p f) ∗ (∃ f : KvC F, vPts p f)) else iprop(emp)
def barCm (d p : Dev nD) (r : Fin 3) : sProp 𝕄 := if p = prt r d then cmAny p r else iprop(emp)
def barPay (d p : Dev nD) : sProp 𝕄 := iprop(barKv d p ∗ barCm d p 0 ∗ barCm d p 1 ∗ barCm d p 2)

/-- Which semaphores a device uses. -/
def activeO (c : Dev nD) : OKey → Prop
  | .scat _ _ => c = dev0
  | .recv _ => c ≠ dev0
  | .rsend _ => True
  | .rrecv _ => True
  | .loc _ => c = dev0

instance (c : Dev nD) (k : OKey) : Decidable (activeO c k) := by
  cases k <;> unfold activeO <;> infer_instance

/-- The device that the copy counted by `scat i _` goes to. -/
def sdev (i : Fin 7) : Dev nD := ⟨i.val + 1, by have := i.isLt; show i.val + 1 < 8; omega⟩

/-- What a completed transfer on device `c` hands over. -/
def payO (c : Dev nD) : OKey → sProp 𝕄
  | .scat i j => if j = 0 then srcK m (sdev i) else srcV m (sdev i)
  | .recv j => if j = 0 then kPts c (kSlice m c) else vPts c (vSlice m c)
  | .rsend r => oPts c (acc a0 r c)
  | .rrecv r => cmHas c r (acc a0 r (prt r c))
  | .loc j => if j = 0 then iprop(kPts c (kSlice m dev0) ∗ srcK m dev0) else iprop(vPts c (vSlice m dev0) ∗ srcV m dev0)

/-- The bytes of a key or value slice, and of a partial output, in the units its semaphore counts. -/
@[irreducible] def NK : ℕ := kM.view.dmaCredit
@[irreducible] def NO : ℕ := oM.view.dmaCredit
theorem NK_eq : kM.view.dmaCredit = NK := by unfold NK; rfl
theorem NO_eq : oM.view.dmaCredit = NO := by unfold NO; rfl
theorem NK_pos : 0 < NK := by rw [← NK_eq]; exact View.dmaCredit_pos _ (by decide)
theorem NO_pos : 0 < NO := by rw [← NO_eq]; exact View.dmaCredit_pos _ h_S2x512x768

/-- What one payment on a semaphore is worth. -/
def amtO : OKey → ℕ
  | .rsend _ => NO
  | .rrecv _ => NO
  | _ => NK
def amt : Key → ℕ
  | none => 1
  | some k => amtO k

theorem amtO_pos (k : OKey) : 0 < amtO k := by
  cases k
  · exact NK_pos
  · exact NK_pos
  · exact NO_pos
  · exact NO_pos
  · exact NK_pos

def dutyK (c : Dev nD) : Key → Finset (Dev nD)
  | none => Finset.univ
  | some k => if activeO c k then {dev0} else ∅

def payK (c : Dev nD) (k : Key) (d : Dev nD) : sProp 𝕄 :=
  match k with
  | none => barPay c d
  | some k => payO m a0 c k

section Storable
omit [FloatOps F] [Named F] in
instance (c : Dev nD) (f) : BI.Storable (upEmb : UEmb _ 𝕄) (kPts (F := F) c f) := by unfold kPts; infer_instance
omit [FloatOps F] [Named F] in
instance (c : Dev nD) (f) : BI.Storable (upEmb : UEmb _ 𝕄) (vPts (F := F) c f) := by unfold vPts; infer_instance
omit [FloatOps F] [Named F] in
instance (c : Dev nD) (f) : BI.Storable (upEmb : UEmb _ 𝕄) (oPts (F := F) c f) := by unfold oPts; infer_instance
omit [FloatOps F] [Named F] in
instance (c : Dev nD) (r) : BI.Storable (upEmb : UEmb _ 𝕄) (cmAny (F := F) c r) := by unfold cmAny; infer_instance
omit [FloatOps F] [Named F] in
instance (c : Dev nD) (r) (w) : BI.Storable (upEmb : UEmb _ 𝕄) (cmHas (F := F) c r w) := by unfold cmHas; infer_instance
omit [FloatOps F] [Named F] in
instance (d : Dev nD) : BI.Storable (upEmb : UEmb _ 𝕄) (srcK (F := F) m d) := by unfold srcK; infer_instance
omit [FloatOps F] [Named F] in
instance (d : Dev nD) : BI.Storable (upEmb : UEmb _ 𝕄) (srcV (F := F) m d) := by unfold srcV; infer_instance
omit [FloatOps F] [Named F] in
instance (d p : Dev nD) : BI.Storable (upEmb : UEmb _ 𝕄) (barKv (F := F) d p) := by unfold barKv; split <;> infer_instance
omit [FloatOps F] [Named F] in
instance (d p : Dev nD) (r) : BI.Storable (upEmb : UEmb _ 𝕄) (barCm (F := F) d p r) := by unfold barCm; split <;> infer_instance
omit [FloatOps F] [Named F] in
instance barPay_storable (d p : Dev nD) : BI.Storable (upEmb : UEmb _ 𝕄) (barPay (F := F) d p) := by
  unfold barPay; infer_instance
omit [Named F] in
instance payO_storable (c : Dev nD) (k : OKey) : BI.Storable (upEmb : UEmb _ 𝕄) (payO m a0 c k) := by
  cases k <;> dsimp only [payO] <;> (try split) <;> infer_instance
omit [Named F] in
instance payK_storable (c : Dev nD) (k : Key) (d : Dev nD) : BI.Storable (upEmb : UEmb _ 𝕄) (payK m a0 c k d) := by
  cases k <;> dsimp only [payK] <;> infer_instance
end Storable

/-- One round. -/
def rd : Rounds.Schedule (GSem nD τ sig) (Dev nD) 𝕄 where
  duties g r := if r = 0 ∧ g.1.2 = .tc then (match keyOf g.2 with | some k => dutyK g.1.1 k | none => ∅) else ∅
  unitless _ := False
  amount g _ _ := match keyOf g.2 with | some k => amt k | none => 1
  payload g _ d := match keyOf g.2 with | some k => payK m a0 g.1.1 k d | none => iprop(emp)
  amount_pos g _ _ _ := by
    rcases keyOf g.2 with _ | (_ | k)
    · exact Nat.one_pos
    · exact Nat.one_pos
    · exact amtO_pos k

omit [Named F] in
instance rd_payload_storable (g : GSem nD τ sig) (r : ℕ) (d : Dev nD) :
    BI.Storable (upEmb : UEmb _ 𝕄) ((rd (F := F) m a0).payload g r d) := by
  show BI.Storable upEmb (match keyOf g.2 with | some k => payK m a0 g.1.1 k d | none => iprop(emp))
  split <;> infer_instance

section Sched
variable (c : Dev nD)

omit [Named F] in
theorem duties_key (k : Key) : (rd (F := F) m a0).duties (kcell (c, k)) 0 = dutyK c k := by
  show (if (0 : ℕ) = 0 ∧ (kcell (c, k)).1.2 = .tc then (match keyOf (csem k) with | some k => dutyK c k | none => ∅) else ∅) = _
  rw [if_pos ⟨rfl, rfl⟩, keyOf_csem]
omit [Named F] in
theorem duties_later (g : GSem nD τ sig) : ∀ r, 1 ≤ r → (rd (F := F) m a0).duties g r = ∅ :=
  fun r hr => by dsimp only [rd]; rw [if_neg fun h => by omega]
omit [Named F] in
theorem duties_unused (k : OKey) (h : ¬ activeO c k) (r : ℕ) : (rd (F := F) m a0).duties (kcell (c, some k)) r = ∅ := by
  rcases r with _ | r
  · rw [duties_key]; exact if_neg h
  · exact duties_later m a0 _ _ (Nat.succ_le_succ (Nat.zero_le _))
omit [Named F] in
theorem amount_key (k : Key) (r : ℕ) (d : Dev nD) : (rd (F := F) m a0).amount (kcell (c, k)) r d = amt k := by
  show (match keyOf (csem k) with | some k => amt k | none => 1) = _
  rw [keyOf_csem]
omit [Named F] in
theorem payload_key (k : Key) (r : ℕ) (d : Dev nD) : (rd (F := F) m a0).payload (kcell (c, k)) r d = payK m a0 c k d := by
  show (match keyOf (csem k) with | some k => payK m a0 c k d | none => iprop(emp)) = _
  rw [keyOf_csem]
omit [Named F] in
theorem expect_own (k : OKey) (h : activeO c k) : (rd (F := F) m a0).expect (kcell (c, some k)) 0 = amtO k := by
  unfold Schedule.expect Schedule.amountOf
  rw [duties_key]; dsimp only [dutyK]; rw [if_pos h, Finset.sum_singleton, amount_key]; rfl
omit [Named F] in
theorem expect_bar : (rd (F := F) m a0).expect (kcell (c, none)) 0 = 8 := by
  unfold Schedule.expect Schedule.amountOf
  rw [duties_key, Finset.sum_congr rfl fun d _ => amount_key m a0 c none 0 d]
  dsimp only [dutyK, amt]
  rw [Finset.sum_const, Finset.card_univ, smul_eq_mul]; decide
omit [Named F] in
theorem rest_own (k : OKey) (h : activeO c k) :
    bigSep ((rd (F := F) m a0).duties (kcell (c, some k)) 0 \ ∅) (fun d => (rd (F := F) m a0).payload (kcell (c, some k)) 0 d) = payO m a0 c k := by
  rw [Finset.sdiff_empty, duties_key]; dsimp only [dutyK]; rw [if_pos h, bigSep_singleton, payload_key]; rfl
omit [Named F] in
theorem rest_bar :
    bigSep ((rd (F := F) m a0).duties (kcell (c, none)) 0 \ ∅) (fun d => (rd (F := F) m a0).payload (kcell (c, none)) 0 d)
      = bigSep Finset.univ (fun p => barPay c p) := by
  rw [Finset.sdiff_empty, duties_key]; dsimp only [dutyK]
  exact bigSep_congr fun d _ => payload_key m a0 c none 0 d

end Sched

/-! ## What each device owes; the levels -/

/-- What is owed for a list of payments still to be made, the next one first. -/
def dueL : List CK → CellTallies nD τ sig Unit
  | [] => 0
  | x :: xs => dueL xs + tallyAt (kcell x) () (amt x.2)

/-- The payments device `c` makes to other devices, in the program's order. -/
def duesRing (c : Dev nD) : List CK := [(prt 0 c, some (.rrecv 0)), (prt 1 c, some (.rrecv 1)), (prt 2 c, some (.rrecv 2))]
def duesKv : List CK :=
  [(sdev 0, some (.recv 0)), (sdev 0, some (.recv 1)), (sdev 1, some (.recv 0)), (sdev 1, some (.recv 1)),
   (sdev 2, some (.recv 0)), (sdev 2, some (.recv 1)), (sdev 3, some (.recv 0)), (sdev 3, some (.recv 1)),
   (sdev 4, some (.recv 0)), (sdev 4, some (.recv 1)), (sdev 5, some (.recv 0)), (sdev 5, some (.recv 1)),
   (sdev 6, some (.recv 0)), (sdev 6, some (.recv 1))]
def duesAfter (c : Dev nD) : List CK := if c = dev0 then duesKv ++ duesRing c else duesRing c
def duesBar : List CK := [(0, none), (1, none), (2, none), (3, none), (4, none), (5, none), (6, none), (7, none)]
def dues (c : Dev nD) : List CK := duesBar ++ duesAfter c

/-- The barrier below the scatter, the scatter below the rounds of the butterfly, a round below the next. -/
def lvK : Key → ℕ
  | none => 1
  | some (.rsend r) => 3 + r.val
  | some (.rrecv r) => 3 + r.val
  | some _ => 2

def lev (s : SemLoc sig) : ℕ := match keyOf s with | some k => lvK k | none => 0

def L (g : GSem nD τ sig) : Finset Unit := if g.1.2 = .tc then {()} else ∅
def lv (g : GSem nD τ sig) (_ : Unit) : ℕ := lev g.2

theorem L_of_ne (g : GSem nD τ sig) (h : g.1.2 ≠ .tc) : L g = ∅ := if_neg h
theorem L_tc (c : Dev nD) (sm : SemLoc sig) : L ((c : Thread nD τ), sm) = {()} := if_pos rfl
theorem lev_key (k : Key) : lev (csem k) = lvK k := by unfold lev; rw [keyOf_csem]

theorem dueL_pos {l : List CK} {g : GSem nD τ sig} {u : Unit} (h : 0 < dueL l g u) : ∃ x ∈ l, g = kcell x := by
  induction l with
  | nil => exact absurd h (by show ¬ 0 < (0 : ℕ); exact Nat.lt_irrefl 0)
  | cons x xs ih =>
    by_cases hg : g = kcell x
    · exact ⟨x, List.mem_cons_self, hg⟩
    · have h' : 0 < dueL xs g u := by
        have e : dueL (x :: xs) g u = dueL xs g u + tallyAt (kcell x) () (amt x.2) g u := by
          show (dueL xs + tallyAt (kcell x) () (amt x.2)) g u = _
          rw [Pi.add_apply, Finsupp.add_apply]
        rw [e, tallyAt_apply, if_neg (fun h' => hg h'.1), Nat.add_zero] at h
        exact h
      obtain ⟨y, hy, e⟩ := ih h'
      exact ⟨y, List.mem_cons_of_mem _ hy, e⟩

omit [FloatOps F] [Named F] in
/-- A device waits on a semaphore that lies below everything it still owes. -/
theorem mayWait_below (c : Dev nD) (s : SemLoc sig) (l : List CK) (h : ∀ x ∈ l, lev s < lvK x.2) :
    (levAts L lv : sProp 𝕄) ⊢ MayWait (c : Thread nD τ) s () (dueL l) :=
  MayOwe.of_cut (L := L) (lev := lv) (lev s)
    (fun p hp => by rw [Finset.mem_singleton.mp hp, L_tc]; exact Finset.mem_singleton_self _)
    (fun g u hg => by
      obtain ⟨x, _, rfl⟩ := dueL_pos hg
      unfold kcell; rw [L_tc]; exact Finset.mem_singleton_self _)
    (fun p hp => by rw [Finset.mem_singleton.mp hp]; exact le_refl _)
    (fun g u hg => by
      obtain ⟨x, hx, rfl⟩ := dueL_pos hg
      show lev s < lev (csem x.2)
      rw [lev_key]; exact h x hx)

/-- What device `c` still owes, whatever it has waited for. -/
def owesX (c : Dev nD) (l : List CK) : sProp 𝕄 := iprop(∃ W : Waits sig Unit, owes (c : Thread nD τ) (dueL l) W)

/-! ## The cells' records -/

/-- Every cell's invariant, and that its round 0 is reached. -/
def records (K : CK → ℕ) : sProp 𝕄 :=
  iprop((bigSep Finset.univ fun ck : CK => cellInv ER (rd m a0) (K ck) (kcell ck))
    ∗ bigSep Finset.univ fun ck : CK => reached ER (kcell ck) 0)

instance records_persistent (K : CK → ℕ) : BI.Persistent (records m a0 K) := by unfold records; infer_instance

omit [Named F] in
theorem inv_at (K : CK → ℕ) (ck : CK) : (records m a0 K : sProp 𝕄) ⊢ cellInv ER (rd m a0) (K ck) (kcell ck) := by
  unfold records
  iintro ⟨H, -⟩
  iapply (show (bigSep Finset.univ fun ck : CK => (cellInv ER (rd m a0) (K ck) (kcell ck) : sProp 𝕄)) ⊢ _ from bigSep_elim (Finset.mem_univ ck))
  iexact H
omit [Named F] in
theorem reached_at (K : CK → ℕ) (ck : CK) : (records m a0 K : sProp 𝕄) ⊢ reached ER (kcell ck) 0 := by
  unfold records
  iintro ⟨-, H⟩
  iapply (show (bigSep Finset.univ fun ck : CK => (reached ER (kcell ck) 0 : sProp 𝕄)) ⊢ _ from bigSep_elim (Finset.mem_univ ck))
  iexact H

end Cert.KProof

end
-- ==== Proof.Steps.lean ====
/-
# One rule per step of the protocol, stated over its keys

Each rule takes the cells' records, what the step consumes and what is still owed, and hands back what the step
yields. A wait also closes the cell it empties, so that its counter at zero is the device's again.
-/
module

public import proofs.«01_k».proof.Proof.Common

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

abbrev 𝒱₀ : Variants := Variants.none

/-- The body's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program that has returned. -/
theorem wp_done (c : Dev nD) {α : Type} (a : α) (Q : α → sProp 𝕄) : Q a ⊢ WP c (Prog.ret a) Q := by
  unfold WP; rw [wp_ret]
  iintro H; imodintro; iexact H

/-- A program run in two stretches. -/
theorem wp_seq (c : Dev nD) {α β : Type} (p : Prog (TpuEff nD τ sig (Elt F) Λ₀ .tc) α) (k : α → Prog (TpuEff nD τ sig (Elt F) Λ₀ .tc) β)
    (Q : β → sProp 𝕄) : WP c p (fun a => WP c (k a) Q) ⊢ WP c (p >>= k) Q := by
  unfold WP; exact Entails.of_eq (wp_bind ..).symm

variable (m : (ℓ : Loc nD τ sig) → Buf (Elt F) ℓ) (a0 : Dev nD → OutC F) (K : CK → ℕ)

/-! ## Credits of the copies' views -/

omit [FloatOps F] [Named F] in
theorem kSrc_credit (d : Dev nD) : (kSrc d).view.dmaCredit = NK := by unfold NK; rfl
omit [FloatOps F] [Named F] in
theorem vSrc_credit (d : Dev nD) : (vSrc d).view.dmaCredit = NK := by unfold NK; rfl
omit [FloatOps F] [Named F] in
theorem vM_credit : vM.view.dmaCredit = NK := by unfold NK; rfl
omit [FloatOps F] [Named F] in
theorem cmS_credit (r : Fin 3) : (cmS r).view.dmaCredit = NO := by unfold NO; rfl

/-! ## Signal and barrier wait -/

/-- Device `c`'s signal at device `d`'s barrier. -/
theorem wp_sig (c d : Dev nD) (l : List CK) {α : Type} {k : PUnit → Prog (TpuEff nD τ sig (Elt F) Λ₀ .tc) α} {Q : α → sProp 𝕄} :
    iprop(records m a0 K ∗ owesX c ((d, none) :: l) ∗ dutyTok ER (kcell (d, none)) 0 c ∗ barPay d c)
      ⊢ iprop((owesX c l -∗ WP c (k ⟨⟩) Q) -∗ WP c (.op (.semSignal (d : Thread nD τ) barS 1) k) Q) := by
  unfold owesX
  iintro ⟨#HR, ⟨%W, HO⟩, Htok, Hpay⟩ Hk
  iapply (Rounds.wp_signal 𝒱₀ ER (rd m a0) (c : Thread nD τ) none (dst := (d : Thread nD τ)) (sem := barS) (κ := K (d, none))
      (r := 0) (d := c) (k' := 1) (by
        show c ∈ (rd m a0).duties (kcell (d, none)) 0
        rw [duties_key]; exact Finset.mem_univ _) (amount_key m a0 d none 0 c) () (dueL l) rfl)
    $$ [HO Htok Hpay]
  · isplitr; · iapply (inv_at m a0 K (d, none)); iexact HR
    isplitl [HO]; · iexact HO
    isplitl [Htok]; · iexact Htok
    isplitl [Hpay]
    · iapply (show (barPay d c : sProp 𝕄) ⊢ (rd m a0).payload ((d : Thread nD τ), SemLoc.reg barS) 0 c from
        Entails.of_eq (payload_key m a0 d none 0 c).symm)
      iexact Hpay
    · iapply (reached_at m a0 K (d, none)); iexact HR
  iintro HO
  iapply Hk
  iexists W; iexact HO

/-- The wait for all eight signals. -/
theorem wp_barwait (c : Dev nD) (l : List CK) (hl : ∀ x ∈ l, 1 < lvK x.2) {α : Type}
    {k : PUnit → Prog (TpuEff nD τ sig (Elt F) Λ₀ .tc) α} {Q : α → sProp 𝕄} :
    iprop(records m a0 K ∗ levAts L lv ∗ cred (tallyAt (kcell (c, none)) () 8) ∗ owesX c l ∗ atPos ER (kcell (c, none)) 0 ∅ 0)
      ⊢ iprop(((owesX c l ∗ (bigSep Finset.univ fun p => barPay c p) ∗ semVal (kcell (c, none)) 0) -∗ WP c (k ⟨⟩) Q)
        -∗ WP c (.op (.semWait barS 8) k) Q) := by
  unfold owesX
  iintro ⟨#HR, #Hlev, Hc, ⟨%W, HO⟩, Hat⟩ Hk
  iapply (Rounds.wp_wait_rest_token 𝒱₀ ER (rd m a0) (c : Thread nD τ) none (κ := K (c, none)) (sm := .reg barS) (k' := 8)
      (wpE_semWait_eq 𝒱₀ (c : Thread nD τ) none Set.univ) (Set.mem_univ _) () (O := dueL l) (W := W) (R := 0) (m := 0) (T := ∅)
      (by show 0 + 8 = (rd m a0).expect (kcell (c, none)) 0; rw [expect_bar])) $$ [Hc HO Hat]
  · isplitr; · iapply (inv_at m a0 K (c, none)); iexact HR
    isplitl [Hc]; · iexact Hc
    isplitl [HO]; · iexact HO
    isplitr; · iapply (mayWait_below c (.reg barS) l (fun x hx => by rw [show lev (.reg barS) = 1 from lev_key none]; exact hl x hx)); iexact Hlev
    iexact Hat
  iintro ⟨HO, Hat, -, Hpay⟩
  imod (Rounds.cell_close ER (rd m a0) (Set.mem_univ (K (c, none))) (fun h => h) (R := 0 + 1) (duties_later m a0 (kcell (c, none)))) $$ [Hat] with Hz
  · isplitr; · iapply (inv_at m a0 K (c, none)); iexact HR
    iexact Hat
  iapply Hk
  isplitl [HO]; · iexists _; iexact HO
  isplitl [Hpay]; · iapply (Entails.of_eq (rest_bar m a0 c)); iexact Hpay
  iexact Hz

/-! ## The transfer waits -/

/-- A wait for the transfer of key `k`, whatever its descriptor's source. -/
theorem wp_dwait (c : Dev nD) (k : OKey) (hk : activeO c k) (l : List CK) (hl : ∀ x ∈ l, lvK (some k) < lvK x.2)
    {sp sp' : Space} {s s' : Shape} {e e' : EltTy} {sem : DmaSem sig} {src : Memref sig .tc sp' s' e'} {dst : Memref sig .tc sp s e}
    {hsrc : src.view.WordExact} {hdst : dst.view.WordExact} (hs : sem = (⟨oidx k, oidx_lt k⟩ : DmaSem sig)) (hN : dst.view.dmaCredit = amtO k)
    {α : Type} {kk : PUnit → Prog (TpuEff nD τ sig (Elt F) Λ₀ .tc) α} {Q : α → sProp 𝕄} :
    iprop(records m a0 K ∗ levAts L lv ∗ cred (tallyAt (kcell (c, some k)) () (amtO k)) ∗ owesX c l ∗ atPos ER (kcell (c, some k)) 0 ∅ 0)
      ⊢ iprop(((owesX c l ∗ payO m a0 c k ∗ semVal (kcell (c, some k)) 0) -∗ WP c (kk ⟨⟩) Q)
        -∗ WP c (.op (.waitDma2 sem src dst hsrc hdst) kk) Q) := by
  subst hs
  unfold owesX
  iintro ⟨#HR, #Hlev, Hc, ⟨%W, HO⟩, Hat⟩ Hk
  iapply (Rounds.wp_wait_rest_token 𝒱₀ ER (rd m a0) (c : Thread nD τ) none (κ := K (c, some k)) (sm := osem k) (k' := amtO k)
      (fun K' => by rw [← hN]; exact wpE_waitDma2_eq 𝒱₀ (c : Thread nD τ) none Set.univ K') (Set.mem_univ _) () (O := dueL l) (W := W) (R := 0) (m := 0) (T := ∅)
      (by show 0 + amtO k = (rd m a0).expect (kcell (c, some k)) 0; rw [expect_own m a0 c k hk, Nat.zero_add])) $$ [Hc HO Hat]
  · isplitr; · iapply (inv_at m a0 K (c, some k)); iexact HR
    isplitl [Hc]; · iexact Hc
    isplitl [HO]; · iexact HO
    isplitr; · iapply (mayWait_below c (osem k) l (fun x hx => by rw [show lev (osem k) = lvK (some k) from lev_key (some k)]; exact hl x hx)); iexact Hlev
    iexact Hat
  iintro ⟨HO, Hat, -, Hpay⟩
  imod (Rounds.cell_close ER (rd m a0) (Set.mem_univ (K (c, some k))) (fun h => h) (R := 0 + 1) (duties_later m a0 (kcell (c, some k)))) $$ [Hat] with Hz
  · isplitr; · iapply (inv_at m a0 K (c, some k)); iexact HR
    iexact Hat
  iapply Hk
  isplitl [HO]; · iexists _; iexact HO
  isplitl [Hpay]; · iapply (Entails.of_eq (rest_own m a0 c k hk)); iexact Hpay
  iexact Hz

/-- A cell the device does not use closes at once. -/
theorem close_unused (c : Dev nD) (k : OKey) (hk : ¬ activeO c k) :
    iprop(records m a0 K ∗ atPos ER (kcell (c, some k)) 0 ∅ 0) ⊢ |={Set.univ}=> semVal (kcell (c, some k)) 0 := by
  iintro ⟨#HR, Hat⟩
  iapply (Rounds.cell_close ER (rd m a0) (Set.mem_univ (K (c, some k))) (fun h => h) (R := 0) (fun r _ => duties_unused m a0 c k hk r))
  isplitr; · iapply (inv_at m a0 K (c, some k)); iexact HR
  iexact Hat

/-! ## The copies -/

omit [Named F] in
theorem landK (c d : Dev nD) (fd : KvC F) :
    (kM.view.loc (c : Thread nD τ) ↦[kM.view.set]{fullShare} (kM.view.write (Elt F) fd ((kSrc d).view.read (Elt F) (m ((dev0 : Thread nD τ).loc main_arg2))) Finset.univ) : sProp 𝕄)
      ⊢ kPts c (kSlice m d) := by
  unfold kPts kSlice
  exact Entails.of_eq (congrArg _ (View.write_whole_univ _ _ _))
omit [Named F] in
theorem landV (c d : Dev nD) (fd : KvC F) :
    (vM.view.loc (c : Thread nD τ) ↦[vM.view.set]{fullShare} (vM.view.write (Elt F) fd ((vSrc d).view.read (Elt F) (m ((dev0 : Thread nD τ).loc main_arg3))) Finset.univ) : sProp 𝕄)
      ⊢ vPts c (vSlice m d) := by
  unfold vPts vSlice
  exact Entails.of_eq (congrArg _ (View.write_whole_univ _ _ _))

omit [Named F] in
theorem landCm (c : Dev nD) (r : Fin 3) (w : OutC F) (f : Buf (Elt F) ((cmS r).view.loc (c : Thread nD τ))) :
    ((cmS r).view.loc (c : Thread nD τ) ↦[(cmS r).view.set]{fullShare} ((cmS r).view.write (Elt F) f (oM.view.read (Elt F) w) Finset.univ) : sProp 𝕄)
      ⊢ cmHas c r w := by
  unfold cmHas
  iintro H
  iexists ((cmS r).view.write (Elt F) f (oM.view.read (Elt F) w) Finset.univ)
  isplitr
  · ipureintro
    exact (View.read_write_univ _ _).trans (View.read_whole _ _)
  · iexact H

/-- Device 0's copy of its own key slice. -/
theorem wp_locK {src : Memref sig .tc .hbm S2x512x8x64 .f32} (hsr : src = kSrc dev0) {sem : DmaSem sig} (hs : sem = (⟨oidx (.loc 0), oidx_lt _⟩ : DmaSem sig))
    {hsrc : src.view.WordExact} {hdst : kM.view.WordExact} {hsem : DmaTarget.Typed (nD := nD) (τ := τ) (sig := sig) (p := .tc) .hbm (.dma sem) (.here kM)}
    {α : Type} {kk : PUnit → Prog (TpuEff nD τ sig (Elt F) Λ₀ .tc) α} {Q : α → sProp 𝕄} :
    iprop(records m a0 K ∗ srcK m dev0 ∗ (∃ f : KvC F, kPts dev0 f) ∗ dutyTok ER (kcell (dev0, some (.loc 0))) 0 dev0)
      ⊢ iprop((cred (tallyAt (kcell (dev0, some (.loc 0))) () (amtO (.loc 0))) -∗ WP dev0 (kk ⟨⟩) Q)
        -∗ WP dev0 (.op (.enqueueDma src (.here kM) (.dma sem) hsrc hdst hsem) kk) Q) := by
  subst hs; subst hsr
  iintro ⟨#HR, Hs, ⟨%f, Hd⟩, Ht⟩ Hk
  unfold srcK kPts
  iapply (Rounds.wp_copy_pointsTo 𝒱₀ ER (rd m a0) (dev0 : Thread nD τ) none (src := kSrc dev0) (dst := kM) (fd := f) (sem := osem (.loc 0)) (r := 0) (d := dev0) (κ := K (dev0, some (.loc 0)))
      (by show dev0 ∈ (rd m a0).duties (kcell (dev0, some (.loc 0))) 0
          rw [duties_key]; dsimp only [dutyK]; rw [if_pos (show activeO dev0 (.loc 0) from rfl)]; exact Finset.mem_singleton_self _)
      () (amtO (.loc 0)) NK_eq (amount_key m a0 dev0 (some (.loc 0)) 0 dev0)
      (by
        refine BI.Entails.trans ?_ (Entails.of_eq (payload_key m a0 dev0 (some (.loc 0)) 0 dev0).symm)
        dsimp only [payK, payO]; rw [if_pos rfl]
        exact sep_mono_left (landK m dev0 dev0 _))) $$ [Hs Hd Ht]
  · isplitr; · iapply (inv_at m a0 K (dev0, some (.loc 0))); iexact HR
    isplitl [Hs]; · iexact Hs
    isplitl [Hd]; · iexact Hd
    isplitl [Ht]; · iexact Ht
    iapply (reached_at m a0 K (dev0, some (.loc 0))); iexact HR
  iexact Hk

/-- Device 0's copy of its own value slice. -/
theorem wp_locV {src : Memref sig .tc .hbm S2x512x8x64 .f32} (hsr : src = vSrc dev0) {sem : DmaSem sig} (hs : sem = (⟨oidx (.loc 1), oidx_lt _⟩ : DmaSem sig))
    {hsrc : src.view.WordExact} {hdst : vM.view.WordExact} {hsem : DmaTarget.Typed (nD := nD) (τ := τ) (sig := sig) (p := .tc) .hbm (.dma sem) (.here vM)}
    {α : Type} {kk : PUnit → Prog (TpuEff nD τ sig (Elt F) Λ₀ .tc) α} {Q : α → sProp 𝕄} :
    iprop(records m a0 K ∗ srcV m dev0 ∗ (∃ f : KvC F, vPts dev0 f) ∗ dutyTok ER (kcell (dev0, some (.loc 1))) 0 dev0)
      ⊢ iprop((cred (tallyAt (kcell (dev0, some (.loc 1))) () (amtO (.loc 1))) -∗ WP dev0 (kk ⟨⟩) Q)
        -∗ WP dev0 (.op (.enqueueDma src (.here vM) (.dma sem) hsrc hdst hsem) kk) Q) := by
  subst hs; subst hsr
  iintro ⟨#HR, Hs, ⟨%f, Hd⟩, Ht⟩ Hk
  unfold srcV vPts
  iapply (Rounds.wp_copy_pointsTo 𝒱₀ ER (rd m a0) (dev0 : Thread nD τ) none (src := vSrc dev0) (dst := vM) (fd := f) (sem := osem (.loc 1)) (r := 0) (d := dev0) (κ := K (dev0, some (.loc 1)))
      (by show dev0 ∈ (rd m a0).duties (kcell (dev0, some (.loc 1))) 0
          rw [duties_key]; dsimp only [dutyK]; rw [if_pos (show activeO dev0 (.loc 1) from rfl)]; exact Finset.mem_singleton_self _)
      () (amtO (.loc 1)) vM_credit (amount_key m a0 dev0 (some (.loc 1)) 0 dev0)
      (by
        refine BI.Entails.trans ?_ (Entails.of_eq (payload_key m a0 dev0 (some (.loc 1)) 0 dev0).symm)
        dsimp only [payK, payO]; rw [if_neg (by decide)]
        exact sep_mono_left (landV m dev0 dev0 _))) $$ [Hs Hd Ht]
  · isplitr; · iapply (inv_at m a0 K (dev0, some (.loc 1))); iexact HR
    isplitl [Hs]; · iexact Hs
    isplitl [Hd]; · iexact Hd
    isplitl [Ht]; · iexact Ht
    iapply (reached_at m a0 K (dev0, some (.loc 1))); iexact HR
  iexact Hk

theorem sdev_ne (i : Fin 7) : sdev i ≠ dev0 := by revert i; decide

/-- Device 0's copy of key slice `i + 1` to device `i + 1`. -/
theorem wp_scatK (i : Fin 7) {n : Dev nD} (hn : n = sdev i) {src : Memref sig .tc .hbm S2x512x8x64 .f32} (hsr : src = kSrc (sdev i))
    {sS sR : DmaSem sig} (hS : sS = (⟨oidx (.scat i 0), oidx_lt _⟩ : DmaSem sig)) (hRv : sR = (⟨oidx (.recv 0), oidx_lt _⟩ : DmaSem sig))
    {hsc : (kM : Memref sig (Dev.tc n : Thread nD τ).2.kind .vmem S2x512x8x64 .f32).view.ref.isScScratch = false}
    {hsrc : src.view.WordExact} {hdst : (kM : Memref sig .tc .vmem S2x512x8x64 .f32).view.WordExact}
    {hsem : DmaTarget.Typed .hbm (.dma sR) (.remote (Dev.tc n : Thread nD τ) (kM : Memref sig .tc .vmem S2x512x8x64 .f32) (.dma sS) hsc)}
    (l : List CK) {α : Type} {kk : PUnit → Prog (TpuEff nD τ sig (Elt F) Λ₀ .tc) α} {Q : α → sProp 𝕄} :
    iprop(records m a0 K ∗ srcK m (sdev i) ∗ (∃ f : KvC F, kPts (sdev i) f) ∗ owesX dev0 ((sdev i, some (.recv 0)) :: l)
        ∗ dutyTok ER (kcell (dev0, some (.scat i 0))) 0 dev0 ∗ dutyTok ER (kcell (sdev i, some (.recv 0))) 0 dev0)
      ⊢ iprop(((cred (tallyAt (kcell (dev0, some (.scat i 0))) () (amtO (.scat i 0))) ∗ owesX dev0 l) -∗ WP dev0 (kk ⟨⟩) Q)
        -∗ WP dev0 (.op (.enqueueDma src (.remote (Dev.tc n : Thread nD τ) kM (.dma sS) hsc) (.dma sR) hsrc hdst hsem) kk) Q) := by
  subst hS; subst hRv; subst hsr; subst hn
  unfold owesX
  iintro ⟨#HR, Hs, ⟨%f, Hd⟩, ⟨%W, HO⟩, Ht1, Ht2⟩ Hk
  unfold srcK kPts
  iapply (Rounds.wp_send_pointsTo 𝒱₀ ER (rd m a0) (dev0 : Thread nD τ) none (c' := (sdev i : Thread nD τ)) (src := kSrc (sdev i)) (dst := kM) (fd := f) (sS := osem (.scat i 0)) (sem := osem (.recv 0))
      (κ₁ := K (dev0, some (.scat i 0))) (κ₂ := K (sdev i, some (.recv 0))) (r₁ := 0) (r₂ := 0) (d₁ := dev0) (d₂ := dev0)
      (by show dev0 ∈ (rd m a0).duties (kcell (dev0, some (.scat i 0))) 0
          rw [duties_key]; dsimp only [dutyK]; rw [if_pos (show activeO dev0 (.scat i 0) from rfl)]; exact Finset.mem_singleton_self _)
      (by show dev0 ∈ (rd m a0).duties (kcell (sdev i, some (.recv 0))) 0
          rw [duties_key]; dsimp only [dutyK]; rw [if_pos (show activeO (sdev i) (.recv 0) from sdev_ne i)]; exact Finset.mem_singleton_self _)
      () () NK NK_eq (amount_key m a0 dev0 (some (.scat i 0)) 0 dev0) (amount_key m a0 (sdev i) (some (.recv 0)) 0 dev0)
      (dueL l) rfl (W := W)
      (by
        refine BI.Entails.trans ?_ (Entails.of_eq (payload_key m a0 dev0 (some (.scat i 0)) 0 dev0).symm)
        dsimp only [payK, payO]; rw [if_pos rfl]; exact BI.Entails.refl _)
      (by
        refine BI.Entails.trans ?_ (Entails.of_eq (payload_key m a0 (sdev i) (some (.recv 0)) 0 dev0).symm)
        dsimp only [payK, payO]; rw [if_pos rfl]; exact landK m (sdev i) (sdev i) _)) $$ [Hs Hd HO Ht1 Ht2]
  · isplitr; · iapply (inv_at m a0 K (dev0, some (.scat i 0))); iexact HR
    isplitr; · iapply (inv_at m a0 K (sdev i, some (.recv 0))); iexact HR
    isplitl [Hs]; · iexact Hs
    isplitl [Hd]; · iexact Hd
    isplitl [HO]; · iexact HO
    isplitl [Ht1]; · iexact Ht1
    isplitr; · iapply (reached_at m a0 K (dev0, some (.scat i 0))); iexact HR
    isplitl [Ht2]; · iexact Ht2
    iapply (reached_at m a0 K (sdev i, some (.recv 0))); iexact HR
  iintro ⟨Hc, HO⟩
  iapply Hk
  isplitl [Hc]; · iexact Hc
  iexists W; iexact HO

/-- Device 0's copy of value slice `i + 1` to device `i + 1`. -/
theorem wp_scatV (i : Fin 7) {n : Dev nD} (hn : n = sdev i) {src : Memref sig .tc .hbm S2x512x8x64 .f32} (hsr : src = vSrc (sdev i))
    {sS sR : DmaSem sig} (hS : sS = (⟨oidx (.scat i 1), oidx_lt _⟩ : DmaSem sig)) (hRv : sR = (⟨oidx (.recv 1), oidx_lt _⟩ : DmaSem sig))
    {hsc : (vM : Memref sig (Dev.tc n : Thread nD τ).2.kind .vmem S2x512x8x64 .f32).view.ref.isScScratch = false}
    {hsrc : src.view.WordExact} {hdst : (vM : Memref sig .tc .vmem S2x512x8x64 .f32).view.WordExact}
    {hsem : DmaTarget.Typed .hbm (.dma sR) (.remote (Dev.tc n : Thread nD τ) (vM : Memref sig .tc .vmem S2x512x8x64 .f32) (.dma sS) hsc)}
    (l : List CK) {α : Type} {kk : PUnit → Prog (TpuEff nD τ sig (Elt F) Λ₀ .tc) α} {Q : α → sProp 𝕄} :
    iprop(records m a0 K ∗ srcV m (sdev i) ∗ (∃ f : KvC F, vPts (sdev i) f) ∗ owesX dev0 ((sdev i, some (.recv 1)) :: l)
        ∗ dutyTok ER (kcell (dev0, some (.scat i 1))) 0 dev0 ∗ dutyTok ER (kcell (sdev i, some (.recv 1))) 0 dev0)
      ⊢ iprop(((cred (tallyAt (kcell (dev0, some (.scat i 1))) () (amtO (.scat i 1))) ∗ owesX dev0 l) -∗ WP dev0 (kk ⟨⟩) Q)
        -∗ WP dev0 (.op (.enqueueDma src (.remote (Dev.tc n : Thread nD τ) vM (.dma sS) hsc) (.dma sR) hsrc hdst hsem) kk) Q) := by
  subst hS; subst hRv; subst hsr; subst hn
  unfold owesX
  iintro ⟨#HR, Hs, ⟨%f, Hd⟩, ⟨%W, HO⟩, Ht1, Ht2⟩ Hk
  unfold srcV vPts
  iapply (Rounds.wp_send_pointsTo 𝒱₀ ER (rd m a0) (dev0 : Thread nD τ) none (c' := (sdev i : Thread nD τ)) (src := vSrc (sdev i)) (dst := vM) (fd := f) (sS := osem (.scat i 1)) (sem := osem (.recv 1))
      (κ₁ := K (dev0, some (.scat i 1))) (κ₂ := K (sdev i, some (.recv 1))) (r₁ := 0) (r₂ := 0) (d₁ := dev0) (d₂ := dev0)
      (by show dev0 ∈ (rd m a0).duties (kcell (dev0, some (.scat i 1))) 0
          rw [duties_key]; dsimp only [dutyK]; rw [if_pos (show activeO dev0 (.scat i 1) from rfl)]; exact Finset.mem_singleton_self _)
      (by show dev0 ∈ (rd m a0).duties (kcell (sdev i, some (.recv 1))) 0
          rw [duties_key]; dsimp only [dutyK]; rw [if_pos (show activeO (sdev i) (.recv 1) from sdev_ne i)]; exact Finset.mem_singleton_self _)
      () () NK vM_credit (amount_key m a0 dev0 (some (.scat i 1)) 0 dev0) (amount_key m a0 (sdev i) (some (.recv 1)) 0 dev0)
      (dueL l) rfl (W := W)
      (by
        refine BI.Entails.trans ?_ (Entails.of_eq (payload_key m a0 dev0 (some (.scat i 1)) 0 dev0).symm)
        dsimp only [payK, payO]; rw [if_neg (by decide)]; exact BI.Entails.refl _)
      (by
        refine BI.Entails.trans ?_ (Entails.of_eq (payload_key m a0 (sdev i) (some (.recv 1)) 0 dev0).symm)
        dsimp only [payK, payO]; rw [if_neg (by decide)]; exact landV m (sdev i) (sdev i) _)) $$ [Hs Hd HO Ht1 Ht2]
  · isplitr; · iapply (inv_at m a0 K (dev0, some (.scat i 1))); iexact HR
    isplitr; · iapply (inv_at m a0 K (sdev i, some (.recv 1))); iexact HR
    isplitl [Hs]; · iexact Hs
    isplitl [Hd]; · iexact Hd
    isplitl [HO]; · iexact HO
    isplitl [Ht1]; · iexact Ht1
    isplitr; · iapply (reached_at m a0 K (dev0, some (.scat i 1))); iexact HR
    isplitl [Ht2]; · iexact Ht2
    iapply (reached_at m a0 K (sdev i, some (.recv 1))); iexact HR
  iintro ⟨Hc, HO⟩
  iapply Hk
  isplitl [Hc]; · iexact Hc
  iexists W; iexact HO

/-- The exchange of round `r`: the output window goes to the partner's landing slot. -/
theorem wp_ring (c : Dev nD) (r : Fin 3) {n : Dev nD} (hn : n = prt r c) {dst : Memref sig .tc .vmem S2x512x768 .f32} (hds : dst = cmS r)
    {sS sR : DmaSem sig} (hS : sS = (⟨oidx (.rsend r), oidx_lt _⟩ : DmaSem sig)) (hRv : sR = (⟨oidx (.rrecv r), oidx_lt _⟩ : DmaSem sig))
    {hsc : (dst : Memref sig (Dev.tc n : Thread nD τ).2.kind .vmem S2x512x768 .f32).view.ref.isScScratch = false}
    {hsrc : oM.view.WordExact} {hdst : dst.view.WordExact}
    {hsem : DmaTarget.Typed .vmem (.dma sR) (.remote (Dev.tc n : Thread nD τ) (dst : Memref sig .tc .vmem S2x512x768 .f32) (.dma sS) hsc)}
    (l : List CK) {α : Type} {kk : PUnit → Prog (TpuEff nD τ sig (Elt F) Λ₀ .tc) α} {Q : α → sProp 𝕄} :
    iprop(records m a0 K ∗ oPts c (acc a0 r c) ∗ cmAny (prt r c) r ∗ owesX c ((prt r c, some (.rrecv r)) :: l)
        ∗ dutyTok ER (kcell (c, some (.rsend r))) 0 dev0 ∗ dutyTok ER (kcell (prt r c, some (.rrecv r))) 0 dev0)
      ⊢ iprop(((cred (tallyAt (kcell (c, some (.rsend r))) () (amtO (.rsend r))) ∗ owesX c l) -∗ WP c (kk ⟨⟩) Q)
        -∗ WP c (.op (.enqueueDma oM (.remote (Dev.tc n : Thread nD τ) dst (.dma sS) hsc) (.dma sR) hsrc hdst hsem) kk) Q) := by
  subst hS; subst hRv; subst hds; subst hn
  unfold owesX cmAny
  iintro ⟨#HR, Hs, ⟨%f, Hd⟩, ⟨%W, HO⟩, Ht1, Ht2⟩ Hk
  unfold oPts
  iapply (Rounds.wp_send_pointsTo 𝒱₀ ER (rd m a0) (c : Thread nD τ) none (c' := (prt r c : Thread nD τ)) (src := oM) (dst := cmS r) (fd := f) (sS := osem (.rsend r)) (sem := osem (.rrecv r))
      (κ₁ := K (c, some (.rsend r))) (κ₂ := K (prt r c, some (.rrecv r))) (r₁ := 0) (r₂ := 0) (d₁ := dev0) (d₂ := dev0)
      (by show dev0 ∈ (rd m a0).duties (kcell (c, some (.rsend r))) 0
          rw [duties_key]; dsimp only [dutyK]; rw [if_pos (show activeO c (.rsend r) from trivial)]; exact Finset.mem_singleton_self _)
      (by show dev0 ∈ (rd m a0).duties (kcell (prt r c, some (.rrecv r))) 0
          rw [duties_key]; dsimp only [dutyK]; rw [if_pos (show activeO (prt r c) (.rrecv r) from trivial)]; exact Finset.mem_singleton_self _)
      () () NO (cmS_credit r) (amount_key m a0 c (some (.rsend r)) 0 dev0) (amount_key m a0 (prt r c) (some (.rrecv r)) 0 dev0)
      (dueL l) rfl (W := W)
      (by
        refine BI.Entails.trans ?_ (Entails.of_eq (payload_key m a0 c (some (.rsend r)) 0 dev0).symm)
        dsimp only [payK, payO]; exact BI.Entails.refl _)
      (by
        refine BI.Entails.trans ?_ (Entails.of_eq (payload_key m a0 (prt r c) (some (.rrecv r)) 0 dev0).symm)
        dsimp only [payK, payO]
        rw [prt_prt]
        exact landCm (prt r c) r _ _)) $$ [Hs Hd HO Ht1 Ht2]
  · isplitr; · iapply (inv_at m a0 K (c, some (.rsend r))); iexact HR
    isplitr; · iapply (inv_at m a0 K (prt r c, some (.rrecv r))); iexact HR
    isplitl [Hs]; · iexact Hs
    isplitl [Hd]; · iexact Hd
    isplitl [HO]; · iexact HO
    isplitl [Ht1]; · iexact Ht1
    isplitr; · iapply (reached_at m a0 K (c, some (.rsend r))); iexact HR
    isplitl [Ht2]; · iexact Ht2
    iapply (reached_at m a0 K (prt r c, some (.rrecv r))); iexact HR
  iintro ⟨Hc, HO⟩
  iapply Hk
  isplitl [Hc]; · iexact Hc
  iexists W; iexact HO

end Cert.KProof

end
-- ==== Proof.Handshake.lean ====
/-
# The handshake: what each device gives and gets at the barrier, and the signals

A device gives away its landing slots, one to each partner, and (unless it is device 0) its key and value buffers to
device 0; it gets its partners' slots, and device 0 the buffers it will fill.
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (a0 : Dev nD → OutC F) (K : CK → ℕ)

/-! ## Finite sums of one term -/

omit [FloatOps F] [Named F] in
theorem bigSep_one {I : Type} [Fintype I] [DecidableEq I] (a : I) (P : sProp 𝕄) (Φ : I → sProp 𝕄) (ha : P ⊢ Φ a)
    (h : ∀ d, d ≠ a → iprop(emp) ⊢ Φ d) : P ⊢ bigSep Finset.univ Φ := by
  rw [bigSep_univ_at Φ a]
  have h2 : (iprop(emp) : sProp 𝕄) ⊢ bigSep (Finset.univ.erase a) Φ := by
    refine (Entails.of_eq (bigSep_emp_const (M := 𝕄) (Finset.univ.erase a)).symm).trans ?_
    exact bigSep_mono fun d hd => h d (Finset.mem_erase.mp hd).1
  iintro H
  isplitl [H]
  · iapply ha; iexact H
  · iapply h2; iempintro

omit [FloatOps F] [Named F] in
theorem bigSep_dev (Φ : Dev nD → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] [Named F] in
theorem bigSep_seven (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] [Named F] in
theorem bigSep_three (Φ : Fin 3 → sProp 𝕄) : bigSep Finset.univ Φ = iprop(Φ 0 ∗ Φ 1 ∗ Φ 2) :=
  bigSep_univ_eq_bigSepL [0, 1, 2] (by decide) (by decide) Φ

/-! ## What the handshake hands around -/

/-- The key and value buffers of `c`, at some contents. -/
def kvAny (c : Dev nD) : sProp 𝕄 := iprop((∃ f : KvC F, kPts c f) ∗ (∃ f : KvC F, vPts c f))

/-- What `c` keeps of its key and value buffers through the handshake: device 0 its own, the others nothing. -/
def kvKept (c : Dev nD) : sProp 𝕄 := if c = dev0 then kvAny c else iprop(emp)

/-- What `c` holds after the handshake: device 0 every device's buffers. -/
def kvGot (c : Dev nD) : sProp 𝕄 := if c = dev0 then bigSep Finset.univ fun i : Fin 7 => kvAny (sdev i) else iprop(emp)

/-- Device `c` gives its landing slots to its partners and its key and value buffers to device 0. -/
theorem barPays_intro (c : Dev nD) :
    iprop(kvAny (F := F) c ∗ cmAny c 0 ∗ cmAny c 1 ∗ cmAny c 2) ⊢ iprop(kvKept c ∗ bigSep Finset.univ fun d => barPay (F := F) d c) := by
  have hcm : ∀ r : Fin 3, (cmAny c r : sProp 𝕄) ⊢ bigSep Finset.univ fun d => barCm (F := F) d c r := fun r =>
    bigSep_one (prt r c) _ _
      (by unfold barCm; rw [prt_prt, if_pos rfl])
      (fun d hd => by unfold barCm; rw [if_neg (fun h => hd (prt_inj r h))])
  have hkv : (kvAny c : sProp 𝕄) ⊢ iprop(kvKept c ∗ bigSep Finset.univ fun d => barKv (F := F) d c) := by
    unfold kvKept
    by_cases h : c = dev0
    · rw [if_pos h]
      have he : (iprop(emp) : sProp 𝕄) ⊢ bigSep Finset.univ fun d => barKv (F := F) d c := by
        refine (Entails.of_eq (bigSep_emp_const (M := 𝕄) (Finset.univ : Finset (Dev nD))).symm).trans ?_
        exact bigSep_mono fun d _ => by unfold barKv; rw [if_neg (fun h' => h'.2 h)]; exact BI.Entails.refl _
      iintro H
      isplitl [H]; · iexact H
      iapply he; iempintro
    · rw [if_neg h]
      iintro H
      isplitr; · iempintro
      iapply (bigSep_one (F := F) dev0 (kvAny c) (fun d => barKv (F := F) d c)
        (by unfold barKv kvAny; rw [if_pos ⟨rfl, h⟩])
        (fun d hd => by unfold barKv; rw [if_neg (fun h' => hd h'.1)]))
      iexact H
  unfold barPay
  rw [bigSep_sep', bigSep_sep', bigSep_sep']
  iintro ⟨Hkv, H0, H1, H2⟩
  ihave Hkv := hkv $$ Hkv
  icases Hkv with ⟨Hk, Hb⟩
  isplitl [Hk]; · iexact Hk
  isplitl [Hb]; · iexact Hb
  isplitl [H0]; · iapply (hcm 0); iexact H0
  isplitl [H1]; · iapply (hcm 1); iexact H1
  iapply (hcm 2); iexact H2

/-- Device `c` gets its partners' landing slots, and device 0 the other devices' key and value buffers. -/
theorem barPays_elim (c : Dev nD) :
    (bigSep Finset.univ fun p => barPay (F := F) c p) ⊢ iprop(kvGot (F := F) c ∗ cmAny (prt 0 c) 0 ∗ cmAny (prt 1 c) 1 ∗ cmAny (prt 2 c) 2) := by
  have hcm : ∀ r : Fin 3, (bigSep Finset.univ fun p => barCm (F := F) c p r) ⊢ (cmAny (prt r c) r : sProp 𝕄) := fun r =>
    (bigSep_elim (Finset.mem_univ (prt r c))).trans (by unfold barCm; rw [if_pos rfl]; exact BI.Entails.refl _)
  have hkv : (bigSep Finset.univ fun p => barKv (F := F) c p) ⊢ (kvGot c : sProp 𝕄) := by
    unfold kvGot
    by_cases h : c = dev0
    · subst h
      rw [if_pos rfl, bigSep_dev, bigSep_seven]
      have hb : ∀ i : Fin 7, (barKv (F := F) dev0 (sdev i) : sProp 𝕄) = kvAny (sdev i) := fun i => by
        unfold barKv kvAny; rw [if_pos ⟨rfl, sdev_ne i⟩]
      iintro ⟨-, H1, H2, H3, H4, H5, H6, H7⟩
      isplitl [H1]; · iapply (Entails.of_eq (hb 0)); iexact H1
      isplitl [H2]; · iapply (Entails.of_eq (hb 1)); iexact H2
      isplitl [H3]; · iapply (Entails.of_eq (hb 2)); iexact H3
      isplitl [H4]; · iapply (Entails.of_eq (hb 3)); iexact H4
      isplitl [H5]; · iapply (Entails.of_eq (hb 4)); iexact H5
      isplitl [H6]; · iapply (Entails.of_eq (hb 5)); iexact H6
      iapply (Entails.of_eq (hb 6)); iexact H7
    · rw [if_neg h]; iintro -; iempintro
  unfold barPay
  rw [bigSep_sep', bigSep_sep', bigSep_sep']
  iintro ⟨Hk, H0, H1, H2⟩
  isplitl [Hk]; · iapply hkv; iexact Hk
  isplitl [H0]; · iapply (hcm 0); iexact H0
  isplitl [H1]; · iapply (hcm 1); iexact H1
  iapply (hcm 2); iexact H2

/-! ## The signals -/

/-- What a signal of `c` at `d` consumes. -/
def sigIn (c d : Dev nD) : sProp 𝕄 := iprop(dutyTok ER (kcell (d, none)) 0 c ∗ barPay d c)

/-- The first seven signals. -/
theorem signals (c : Dev nD) (l : List CK)
    (Q : (Σ' (d0 : Dev nD) (v2 : BitVec 32) (v3 : Sems sig S_), BitVec 32) → sProp 𝕄) :
    iprop(records m a0 K ∗ owesX c ([(0, none), (1, none), (2, none), (3, none), (4, none), (5, none), (6, none)] ++ l)
        ∗ (sigIn c 0 ∗ sigIn c 1 ∗ sigIn c 2 ∗ sigIn c 3 ∗ sigIn c 4 ∗ sigIn c 5 ∗ sigIn c 6)
        ∗ (owesX c l -∗ Q ⟨c, Scalar.remsi (Scalar.divsi (Dev.word c) 1#32) 8#32, SemArray.scalar (sig.barrier 0 rfl), Scalar.muli 7#32 1#32⟩))
      ⊢ WP c (k0_part8 (F := F) xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9) Q := by
  unfold WP
  rw [k0_part8_eq_skeleton]; unfold k0_part8_skel
  simp only [semSignalWord, semWaitWord, Prog.lift, Prog.bind_op, Prog.bind_ret, Prog.pure_eq_ret, wp_deviceId]
  unfold sigIn
  iintro ⟨#HR, HO, ⟨⟨T0, P0⟩, ⟨T1, P1⟩, ⟨T2, P2⟩, ⟨T3, P3⟩, ⟨T4, P4⟩, ⟨T5, P5⟩, ⟨T6, P6⟩⟩, Hk⟩
  iapply (wp_sig m a0 K c 0 ([(1, none), (2, none), (3, none), (4, none), (5, none), (6, none)] ++ l)) $$ [HO T0 P0]
  · isplitr; · iexact HR
    isplitl [HO]; · iexact HO
    isplitl [T0] <;> iassumption
  iintro HO
  iapply (wp_sig m a0 K c 1 ([(2, none), (3, none), (4, none), (5, none), (6, none)] ++ l)) $$ [HO T1 P1]
  · isplitr; · iexact HR
    isplitl [HO]; · iexact HO
    isplitl [T1] <;> iassumption
  iintro HO
  iapply (wp_sig m a0 K c 2 ([(3, none), (4, none), (5, none), (6, none)] ++ l)) $$ [HO T2 P2]
  · isplitr; · iexact HR
    isplitl [HO]; · iexact HO
    isplitl [T2] <;> iassumption
  iintro HO
  iapply (wp_sig m a0 K c 3 ([(4, none), (5, none), (6, none)] ++ l)) $$ [HO T3 P3]
  · isplitr; · iexact HR
    isplitl [HO]; · iexact HO
    isplitl [T3] <;> iassumption
  iintro HO
  iapply (wp_sig m a0 K c 4 ([(5, none), (6, none)] ++ l)) $$ [HO T4 P4]
  · isplitr; · iexact HR
    isplitl [HO]; · iexact HO
    isplitl [T4] <;> iassumption
  iintro HO
  iapply (wp_sig m a0 K c 5 ([(6, none)] ++ l)) $$ [HO T5 P5]
  · isplitr; · iexact HR
    isplitl [HO]; · iexact HO
    isplitl [T5] <;> iassumption
  iintro HO
  iapply (wp_sig m a0 K c 6 ([] ++ l)) $$ [HO T6 P6]
  · isplitr; · iexact HR
    isplitl [HO]; · iexact HO
    isplitl [T6] <;> iassumption
  iintro HO
  iapply wp_done
  iapply Hk; iexact HO

end Cert.KProof

end
-- ==== Proof.Scatter.lean ====
/-
# The scatter of keys and values, one destination at a time
-/
module

public import proofs.«01_k».proof.Proof.Handshake

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (a0 : Dev nD → OutC F) (K : CK → ℕ)

/-- The right to pay semaphore `k` of device `c`; the credit for its one payment; its round; its counter at zero. -/
abbrev tok (c : Dev nD) (k : OKey) : sProp 𝕄 := dutyTok ER (kcell (c, some k)) 0 dev0
abbrev crd (c : Dev nD) (k : OKey) : sProp 𝕄 := cred (tallyAt (kcell (c, some k)) () (amtO k))
abbrev pos (c : Dev nD) (k : OKey) : sProp 𝕄 := atPos ER (kcell (c, some k)) 0 ∅ 0
abbrev zer (c : Dev nD) (k : OKey) : sProp 𝕄 := semVal (kcell (c, some k)) 0

/-! ## The payloads, by key -/

omit [Named F] in
theorem payO_scatK (i : Fin 7) : payO m a0 dev0 (.scat i 0) = srcK m (sdev i) := by dsimp only [payO]; rw [if_pos rfl]
omit [Named F] in
theorem payO_scatV (i : Fin 7) : payO m a0 dev0 (.scat i 1) = srcV m (sdev i) := by dsimp only [payO]; rw [if_neg (by decide)]
omit [Named F] in
theorem payO_recvK (c : Dev nD) : payO m a0 c (.recv 0) = kPts c (kSlice m c) := by dsimp only [payO]; rw [if_pos rfl]
omit [Named F] in
theorem payO_recvV (c : Dev nD) : payO m a0 c (.recv 1) = vPts c (vSlice m c) := by dsimp only [payO]; rw [if_neg (by decide)]
omit [Named F] in
theorem payO_locK (c : Dev nD) : payO m a0 c (.loc 0) = iprop(kPts c (kSlice m dev0) ∗ srcK m dev0) := by dsimp only [payO]; rw [if_pos rfl]
omit [Named F] in
theorem payO_locV (c : Dev nD) : payO m a0 c (.loc 1) = iprop(vPts c (vSlice m dev0) ∗ srcV m dev0) := by dsimp only [payO]; rw [if_neg (by decide)]

/-! ## One destination of the scatter: its keys, then its values -/

/-- What sending slice `i + 1` takes, what is held while it is in flight, what to wait on, what comes back. -/
def scatIn (i : Fin 7) : sProp 𝕄 :=
  iprop(srcK m (sdev i) ∗ srcV m (sdev i) ∗ kvAny (F := F) (sdev i)
    ∗ tok (F := F) dev0 (.scat i 0) ∗ tok (F := F) (sdev i) (.recv 0) ∗ tok (F := F) dev0 (.scat i 1) ∗ tok (F := F) (sdev i) (.recv 1))
def scatMid (i : Fin 7) : sProp 𝕄 := iprop(crd (F := F) dev0 (.scat i 0) ∗ crd (F := F) dev0 (.scat i 1))
def scatPos (i : Fin 7) : sProp 𝕄 := iprop(pos (F := F) dev0 (.scat i 0) ∗ pos (F := F) dev0 (.scat i 1))
def scatOut (i : Fin 7) : sProp 𝕄 :=
  iprop(srcK m (sdev i) ∗ srcV m (sdev i) ∗ zer (F := F) dev0 (.scat i 0) ∗ zer (F := F) dev0 (.scat i 1))

/-- Device 0 sends slice `i + 1` of the keys and of the values to device `i + 1`. -/
theorem wp_scat (i : Fin 7) {n n' : Dev nD} (hn : n = sdev i) (hn' : n' = sdev i)
    {src src' : Memref sig .tc .hbm S2x512x8x64 .f32} (hsr : src = kSrc (sdev i)) (hsr' : src' = vSrc (sdev i))
    {sS sR sS' sR' : DmaSem sig} (hS : sS = (⟨oidx (.scat i 0), oidx_lt _⟩ : DmaSem sig)) (hRv : sR = (⟨oidx (.recv 0), oidx_lt _⟩ : DmaSem sig))
    (hS' : sS' = (⟨oidx (.scat i 1), oidx_lt _⟩ : DmaSem sig)) (hRv' : sR' = (⟨oidx (.recv 1), oidx_lt _⟩ : DmaSem sig))
    {hsc : (kM : Memref sig (Dev.tc n : Thread nD τ).2.kind .vmem S2x512x8x64 .f32).view.ref.isScScratch = false}
    {hsc' : (vM : Memref sig (Dev.tc n' : Thread nD τ).2.kind .vmem S2x512x8x64 .f32).view.ref.isScScratch = false}
    {hsrc : src.view.WordExact} {hdst : (kM : Memref sig .tc .vmem S2x512x8x64 .f32).view.WordExact}
    {hsrc' : src'.view.WordExact} {hdst' : (vM : Memref sig .tc .vmem S2x512x8x64 .f32).view.WordExact}
    {hsem : DmaTarget.Typed .hbm (.dma sR) (.remote (Dev.tc n : Thread nD τ) (kM : Memref sig .tc .vmem S2x512x8x64 .f32) (.dma sS) hsc)}
    {hsem' : DmaTarget.Typed .hbm (.dma sR') (.remote (Dev.tc n' : Thread nD τ) (vM : Memref sig .tc .vmem S2x512x8x64 .f32) (.dma sS') hsc')}
    (l : List CK) {α : Type} {kk : PUnit → Prog (TpuEff nD τ sig (Elt F) Λ₀ .tc) α} {Q : α → sProp 𝕄} :
    iprop(records m a0 K ∗ scatIn m i ∗ owesX dev0 ((sdev i, some (.recv 0)) :: (sdev i, some (.recv 1)) :: l))
      ⊢ iprop(((scatMid (F := F) i ∗ owesX dev0 l) -∗ WP dev0 (kk ⟨⟩) Q)
        -∗ WP dev0 (.op (.enqueueDma src (.remote (Dev.tc n : Thread nD τ) kM (.dma sS) hsc) (.dma sR) hsrc hdst hsem) fun _ =>
            .op (.enqueueDma src' (.remote (Dev.tc n' : Thread nD τ) vM (.dma sS') hsc') (.dma sR') hsrc' hdst' hsem') kk) Q) := by
  unfold scatIn scatMid kvAny
  iintro ⟨#HR, ⟨HsK, HsV, ⟨HdK, HdV⟩, T0, T1, T2, T3⟩, HO⟩ Hk
  iapply (wp_scatK m a0 K i hn hsr hS hRv ((sdev i, some (.recv 1)) :: l)) $$ [HsK HdK T0 T1 HO]
  · isplitr; · iexact HR
    isplitl [HsK]; · iexact HsK
    isplitl [HdK]; · iexact HdK
    isplitl [HO]; · iexact HO
    isplitl [T0] <;> iassumption
  iintro ⟨Hc0, HO⟩
  iapply (wp_scatV m a0 K i hn' hsr' hS' hRv' l) $$ [HsV HdV T2 T3 HO]
  · isplitr; · iexact HR
    isplitl [HsV]; · iexact HsV
    isplitl [HdV]; · iexact HdV
    isplitl [HO]; · iexact HO
    isplitl [T2] <;> iassumption
  iintro ⟨Hc1, HO⟩
  iapply Hk
  isplitr [HO]
  · isplitl [Hc0] <;> iassumption
  · iexact HO

/-- Device 0 waits until slice `i + 1` of the keys and of the values has left. -/
theorem wp_scatwait (i : Fin 7) (l : List CK) (hl : ∀ x ∈ l, 2 < lvK x.2)
    {dst dst' : Memref sig .tc .hbm S2x512x8x64 .f32} (hd : dst = kSrc (sdev i)) (hd' : dst' = vSrc (sdev i))
    {sem sem' : DmaSem sig} (hs : sem = (⟨oidx (.scat i 0), oidx_lt _⟩ : DmaSem sig)) (hs' : sem' = (⟨oidx (.scat i 1), oidx_lt _⟩ : DmaSem sig))
    {sp sp' : Space} {s s' : Shape} {e e' : EltTy} {src : Memref sig .tc sp s e} {src' : Memref sig .tc sp' s' e'}
    {h1 : src.view.WordExact} {h2 : dst.view.WordExact} {h1' : src'.view.WordExact} {h2' : dst'.view.WordExact}
    {α : Type} {kk : PUnit → Prog (TpuEff nD τ sig (Elt F) Λ₀ .tc) α} {Q : α → sProp 𝕄} :
    iprop(records m a0 K ∗ levAts L lv ∗ scatMid (F := F) i ∗ scatPos (F := F) i ∗ owesX dev0 l)
      ⊢ iprop(((scatOut m i ∗ owesX dev0 l) -∗ WP dev0 (kk ⟨⟩) Q)
        -∗ WP dev0 (.op (.waitDma2 sem src dst h1 h2) fun _ => .op (.waitDma2 sem' src' dst' h1' h2') kk) Q) := by
  subst hd; subst hd'
  unfold scatMid scatPos scatOut
  iintro ⟨#HR, #Hlev, ⟨C0, C1⟩, ⟨P0, P1⟩, HO⟩ Hk
  iapply (wp_dwait m a0 K dev0 (.scat i 0) rfl l hl hs (kSrc_credit (sdev i))) $$ [C0 P0 HO]
  · isplitr; · iexact HR
    isplitr; · iexact Hlev
    isplitl [C0]; · iexact C0
    isplitl [HO] <;> iassumption
  iintro ⟨HO, HsK, Z0⟩
  iapply (wp_dwait m a0 K dev0 (.scat i 1) rfl l hl hs' (vSrc_credit (sdev i))) $$ [C1 P1 HO]
  · isplitr; · iexact HR
    isplitr; · iexact Hlev
    isplitl [C1]; · iexact C1
    isplitl [HO] <;> iassumption
  iintro ⟨HO, HsV, Z1⟩
  iapply Hk
  isplitr [HO]
  · isplitl [HsK]; · iapply (Entails.of_eq (payO_scatK m a0 i)); iexact HsK
    isplitl [HsV]; · iapply (Entails.of_eq (payO_scatV m a0 i)); iexact HsV
    isplitl [Z0] <;> iassumption
  · iexact HO

end Cert.KProof

end
-- ==== Proof.Content.lean ====
/-
# What the kernel's buffers hold: queries, context, partial output
-/
module

public import proofs.«01_k».proof.Proof.Steps
public import Idealize.ShloMosaic.Lib.ValueIdxCoords

@[expose] public section

noncomputable section

namespace Cert.KProof

open Cert.KernelIdeal Cert.KernelIdeal.Gen

open Idealize.ShloMosaic
open Idealize.ShloMosaic.ValueIdx (ix2 ix3 ix4)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## A list of stores that covers a buffer -/

omit [Named F] in
/-- Stores that agree with one function and cover a whole buffer leave that function. -/
theorem writes_whole (b : Ref sig .tc) (f : b.ty.Contents (Elt F))
    (L : List (View.Piece (Elt F) b.ty.shape b.ty.elt)) (G : b.ty.shape.Idx → Elt F b.ty.elt)
    (hG : ∀ p ∈ L, ∀ x : p.1.shape.Idx, p.2 x = G (p.1.emb x)) (hc : ∀ y, ∃ p ∈ L, y ∈ p.1.set) :
    (View.whole b).writes (Elt F) f L = G := by
  rw [← View.read_whole b ((View.whole b).writes (Elt F) f L)]
  exact funext fun y => View.read_writes_apply_of_pieces (View.whole b) f G L hG y (hc y)

/-! ## Queries, one batch row at a time -/

set_option backward.proofsInPublic true in
theorem x_inb (b : Fin 2) : ∀ a, (![b.val, 0, 0] : Fin 3 → ℕ) a + S1x512x768.size a ≤ S2x512x768.size a := by revert b; decide
set_option backward.proofsInPublic true in
theorem q_inb (b : Fin 2) : ∀ a, (![b.val, 0, 0] : Fin 3 → ℕ) a + S1x512x512.size a ≤ S2x512x512.size a := by revert b; decide
set_option backward.proofsInPublic true in
theorem qh_inb (b : Fin 2) (h : Fin 8) : ∀ a, (![b.val, 0, 64 * h.val] : Fin 3 → ℕ) a + S1x512x64.size a ≤ S2x512x512.size a := by
  revert b h; decide
set_option backward.proofsInPublic true in
theorem kh_inb (b : Fin 2) (h : Fin 8) : ∀ a, (![b.val, 0, h.val, 0] : Fin 4 → ℕ) a + S1x512x1x64.size a ≤ S2x512x8x64.size a := by
  revert b h; decide

abbrev QC (F : FTy → Type) : Type := FVec F S2x512x512 .f32
abbrev WqC (F : FTy → Type) : Type := FVec F S768x512 .f32
abbrev WoC (F : FTy → Type) : Type := FVec F S512x768 .f32

/-- The staged operands, the queries and the context in vector memory. -/
def xPt (c : Dev nD) (f : OutC F) : sProp 𝕄 := xM.view.loc (c : Thread nD τ) ↦{fullShare} f
def wqPt (c : Dev nD) (f : WqC F) : sProp 𝕄 := wqM.view.loc (c : Thread nD τ) ↦{fullShare} f
def woPt (c : Dev nD) (f : WoC F) : sProp 𝕄 := woM.view.loc (c : Thread nD τ) ↦{fullShare} f
def qPt (c : Dev nD) (f : QC F) : sProp 𝕄 := qM.view.loc (c : Thread nD τ) ↦{fullShare} f
def ctxPt (c : Dev nD) (f : QC F) : sProp 𝕄 := ctxM.view.loc (c : Thread nD τ) ↦{fullShare} f

omit [FloatOps F] [Named F] in
theorem kPts_eq (c : Dev nD) (f : KvC F) : kPts c f = iprop(kM.view.loc (c : Thread nD τ) ↦{fullShare} f) := by
  unfold kPts; rw [View.set_whole]
omit [FloatOps F] [Named F] in
theorem vPts_eq (c : Dev nD) (f : KvC F) : vPts c f = iprop(vM.view.loc (c : Thread nD τ) ↦{fullShare} f) := by
  unfold vPts; rw [View.set_whole]
omit [FloatOps F] [Named F] in
theorem oPts_eq (c : Dev nD) (f : OutC F) : oPts c f = iprop(oM.view.loc (c : Thread nD τ) ↦{fullShare} f) := by
  unfold oPts; rw [View.set_whole]

/-- The loads of the kernel: a batch row of `x`, of the context; a head of the queries, of the keys, of the values; the weights. -/
def xP (x : OutC F) (b : Fin 2) : FVec F S1x512x768 .f32 :=
  xM.view.readAt (Elt F) (Rect.unit (s := S2x512x768) ![b.val, 0, 0] S1x512x768.size (x_inb b)).toLoadRect x
def ctxP (f : QC F) (b : Fin 2) : FVec F S1x512x512 .f32 :=
  ctxM.view.readAt (Elt F) (Rect.unit (s := S2x512x512) ![b.val, 0, 0] S1x512x512.size (q_inb b)).toLoadRect f
def qP (f : QC F) (b : Fin 2) (h : Fin 8) : FVec F S1x512x64 .f32 :=
  qM.view.readAt (Elt F) (Rect.unit (s := S2x512x512) ![b.val, 0, 64 * h.val] S1x512x64.size (qh_inb b h)).toLoadRect f
def kP (f : KvC F) (b : Fin 2) (h : Fin 8) : FVec F S1x512x1x64 .f32 :=
  kM.view.readAt (Elt F) (Rect.unit (s := S2x512x8x64) ![b.val, 0, h.val, 0] S1x512x1x64.size (kh_inb b h)).toLoadRect f
def vP (f : KvC F) (b : Fin 2) (h : Fin 8) : FVec F S1x512x1x64 .f32 :=
  vM.view.readAt (Elt F) (Rect.unit (s := S2x512x8x64) ![b.val, 0, h.val, 0] S1x512x1x64.size (kh_inb b h)).toLoadRect f
def wqP (f : WqC F) : FVec F S768x512 .f32 :=
  wqM.view.readAt (Elt F) (Rect.unit (s := S768x512) ![0, 0] S768x512.size inb_S768x512_S768x512_0_0).toLoadRect f
def woP (f : WoC F) : FVec F S512x768 .f32 :=
  woM.view.readAt (Elt F) (Rect.unit (s := S512x768) ![0, 0] S512x768.size inb_S512x768_S512x768_0_0).toLoadRect f

/-- The queries. -/
def qB (x : OutC F) (wq : WqC F) : QC F := fun i =>
  k0_pay2 (xP x (i 0)) (wqP wq) (ix3 (0 : Fin 1) (i 1 : Fin 512) (i 2 : Fin 512))

/-- One head: queries, keys and values to context. -/
def headP (q : FVec F S1x512x64 .f32) (k v : FVec F S1x512x1x64 .f32) : FVec F S1x512x64 .f32 :=
  k0_pay8 k0_pay4 k0_pay5 k0_pay6 q k v

/-- The context: head `h` of batch row `b` in the columns `64 h` to `64 h + 63`. -/
def ctxB (fq : QC F) (fk fv : KvC F) : QC F := fun i =>
  headP (qP fq (i 0) ⟨(i 2).val / 64, by have h : (i 2).val < 512 := (i 2).isLt; omega⟩)
    (kP fk (i 0) ⟨(i 2).val / 64, by have h : (i 2).val < 512 := (i 2).isLt; omega⟩)
    (vP fv (i 0) ⟨(i 2).val / 64, by have h : (i 2).val < 512 := (i 2).isLt; omega⟩)
    (ix3 (0 : Fin 1) (i 1 : Fin 512) (⟨(i 2).val % 64, Nat.mod_lt _ (by decide)⟩ : Fin 64))

/-- The partial output of the device's heads. -/
def outB (fq : QC F) (fk fv : KvC F) (fw : WoC F) : OutC F := fun i =>
  k0_pay36 (ctxP (ctxB fq fk fv) (i 0)) (woP fw) (ix3 (0 : Fin 1) (i 1 : Fin 512) (i 2 : Fin 768))

theorem qB_piece (x : OutC F) (wq : WqC F) (b : Fin 2) (y : S1x512x512.Idx) :
    k0_pay2 (xP x b) (wqP wq) y = qB x wq ((Rect.unit (s := S2x512x512) ![b.val, 0, 0] S1x512x512.size (q_inb b)).emb y) := by
  unfold qB
  have e0 : ((Rect.unit (s := S2x512x512) ![b.val, 0, 0] S1x512x512.size (q_inb b)).emb y) 0 = b :=
    Fin.ext (by show b.val + 1 * (y 0).val = b.val; have h : (y 0).val < 1 := (y 0).isLt; omega)
  rw [e0]
  congr 1
  funext a
  match a with
  | ⟨0, _⟩ => exact Fin.ext (by show (y 0).val = 0; have h : (y 0).val < 1 := (y 0).isLt; omega)
  | ⟨1, _⟩ => exact Fin.ext (by show (y 1).val = 0 + 1 * (y 1).val; omega)
  | ⟨2, _⟩ => exact Fin.ext (by show (y 2).val = 0 + 1 * (y 2).val; omega)

theorem outB_piece (fq : QC F) (fk fv : KvC F) (fw : WoC F) (b : Fin 2) (y : S1x512x768.Idx) :
    k0_pay36 (ctxP (ctxB fq fk fv) b) (woP fw) y
      = outB fq fk fv fw ((Rect.unit (s := S2x512x768) ![b.val, 0, 0] S1x512x768.size (x_inb b)).emb y) := by
  unfold outB
  have e0 : ((Rect.unit (s := S2x512x768) ![b.val, 0, 0] S1x512x768.size (x_inb b)).emb y) 0 = b :=
    Fin.ext (by show b.val + 1 * (y 0).val = b.val; have h : (y 0).val < 1 := (y 0).isLt; omega)
  rw [e0]
  congr 1
  funext a
  match a with
  | ⟨0, _⟩ => exact Fin.ext (by show (y 0).val = 0; have h : (y 0).val < 1 := (y 0).isLt; omega)
  | ⟨1, _⟩ => exact Fin.ext (by show (y 1).val = 0 + 1 * (y 1).val; omega)
  | ⟨2, _⟩ => exact Fin.ext (by show (y 2).val = 0 + 1 * (y 2).val; omega)

theorem ctxB_piece (fq : QC F) (fk fv : KvC F) (b : Fin 2) (h : Fin 8) (y : S1x512x64.Idx) :
    headP (qP fq b h) (kP fk b h) (vP fv b h) y
      = ctxB fq fk fv ((Rect.unit (s := S2x512x512) ![b.val, 0, 64 * h.val] S1x512x64.size (qh_inb b h)).emb y) := by
  unfold ctxB
  have e0 : ((Rect.unit (s := S2x512x512) ![b.val, 0, 64 * h.val] S1x512x64.size (qh_inb b h)).emb y) 0 = b :=
    Fin.ext (by show b.val + 1 * (y 0).val = b.val; have h : (y 0).val < 1 := (y 0).isLt; omega)
  have h2 : (y 2).val < 64 := (y 2).isLt
  have e2 : (((Rect.unit (s := S2x512x512) ![b.val, 0, 64 * h.val] S1x512x64.size (qh_inb b h)).emb y) 2).val = 64 * h.val + (y 2).val := by
    show 64 * h.val + 1 * (y 2).val = _; omega
  have ed : ∀ p, (⟨(((Rect.unit (s := S2x512x512) ![b.val, 0, 64 * h.val] S1x512x64.size (qh_inb b h)).emb y) 2).val / 64, p⟩ : Fin 8) = h :=
    fun p => Fin.ext (by show _ / 64 = h.val; rw [e2]; omega)
  rw [e0, ed]
  congr 1
  funext a
  match a with
  | ⟨0, _⟩ => exact Fin.ext (by show (y 0).val = 0; have h : (y 0).val < 1 := (y 0).isLt; omega)
  | ⟨1, _⟩ => exact Fin.ext (by show (y 1).val = 0 + 1 * (y 1).val; omega)
  | ⟨2, _⟩ => exact Fin.ext (by show (y 2).val = (((Rect.unit (s := S2x512x512) ![b.val, 0, 64 * h.val] S1x512x64.size (qh_inb b h)).emb y) 2).val % 64; rw [e2]; omega)

end Cert.KProof

end
-- ==== Proof.Stretch.lean ====
/-
# From the last signal to the queries and the landed keys and values
-/
module

public import proofs.«01_k».proof.Proof.Scatter
public import proofs.«01_k».proof.Proof.Content

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (a0 : Dev nD → OutC F) (K : CK → ℕ)

/-! ## What the stretch takes and gives -/

/-- All head slices of device 0's keys and values. -/
def srcAll : sProp 𝕄 := bigSep Finset.univ fun d : Dev nD => iprop(srcK m d ∗ srcV m d)

/-- The rounds of the semaphores for keys and values, and their counters at zero. -/
def kvPos (c : Dev nD) : sProp 𝕄 :=
  iprop((bigSep Finset.univ fun i : Fin 7 => iprop(pos (F := F) c (.scat i 0) ∗ pos (F := F) c (.scat i 1)))
    ∗ (pos (F := F) c (.recv 0) ∗ pos (F := F) c (.recv 1)) ∗ (pos (F := F) c (.loc 0) ∗ pos (F := F) c (.loc 1)))
def kvZer (c : Dev nD) : sProp 𝕄 :=
  iprop((bigSep Finset.univ fun i : Fin 7 => iprop(zer (F := F) c (.scat i 0) ∗ zer (F := F) c (.scat i 1)))
    ∗ (zer (F := F) c (.recv 0) ∗ zer (F := F) c (.recv 1)) ∗ (zer (F := F) c (.loc 0) ∗ zer (F := F) c (.loc 1)))

/-- The rights to pay for one destination. -/
def scatTok (i : Fin 7) : sProp 𝕄 :=
  iprop(tok (F := F) dev0 (.scat i 0) ∗ tok (F := F) (sdev i) (.recv 0) ∗ tok (F := F) dev0 (.scat i 1) ∗ tok (F := F) (sdev i) (.recv 1))

/-- What device `c` brings to the exchange of keys and values: device 0 the slices and the rights to send them, the
    others the credit for what they will receive. -/
def kvTok (c : Dev nD) : sProp 𝕄 :=
  if c = dev0 then
    iprop(srcAll m ∗ (bigSep Finset.univ fun i : Fin 7 => scatTok (F := F) i) ∗ tok (F := F) dev0 (.loc 0) ∗ tok (F := F) dev0 (.loc 1))
  else iprop(crd (F := F) c (.recv 0) ∗ crd (F := F) c (.recv 1))
def kvBack (c : Dev nD) : sProp 𝕄 := if c = dev0 then srcAll m else iprop(emp)

/-- What the stretch starts from, besides the vector memory it computes on. -/
def stretchIn (c : Dev nD) : sProp 𝕄 :=
  iprop(owesX c ((7, none) :: duesAfter c) ∗ sigIn c 7 ∗ cred (tallyAt (kcell (c, none)) () 8) ∗ atPos ER (kcell (c, none)) 0 ∅ 0
    ∗ kvKept c ∗ kvPos (F := F) c ∗ kvTok m c)

/-- What it ends with. -/
def stretchOut (c : Dev nD) : sProp 𝕄 :=
  iprop(owesX c (duesRing c) ∗ kPts c (kSlice m c) ∗ vPts c (vSlice m c) ∗ (cmAny (prt 0 c) 0 ∗ cmAny (prt 1 c) 1 ∗ cmAny (prt 2 c) 2)
    ∗ semVal (kcell (c, none)) 0 ∗ kvZer (F := F) c ∗ kvBack m c)

/-- The two stores of the queries. -/
theorem qM_stores (x : OutC F) (wq : WqC F) (fq : QC F) :
    qM.view.writes (Elt F) fq [⟨Rect.unit (s := S2x512x512) ![1, 0, 0] S1x512x512.size inb_S2x512x512_S1x512x512_1_0_0, k0_pay3 (xP x 1) (wqP wq)⟩,
      ⟨Rect.unit (s := S2x512x512) ![0, 0, 0] S1x512x512.size inb_S2x512x512_S1x512x512_0_0_0, k0_pay2 (xP x 0) (wqP wq)⟩] = qB x wq := by
  refine writes_whole cc0_scratch2 fq _ _ ?_ (View.cover_of_tiled _ S1x512x512.size rfl)
  intro p hp
  rcases List.mem_cons.mp hp with rfl | hp
  · exact qB_piece x wq 1
  rcases List.mem_cons.mp hp with rfl | hp
  · exact qB_piece x wq 0
  · exact absurd hp List.not_mem_nil

theorem qM_stored (c : Dev nD) (x : OutC F) (wq : WqC F) (fq : QC F) :
    (qM.view.loc (c : Thread nD τ) ↦{fullShare} (qM.view.writes (Elt F) fq [⟨Rect.unit (s := S2x512x512) ![1, 0, 0] S1x512x512.size inb_S2x512x512_S1x512x512_1_0_0, k0_pay3 (xP x 1) (wqP wq)⟩,
      ⟨Rect.unit (s := S2x512x512) ![0, 0, 0] S1x512x512.size inb_S2x512x512_S1x512x512_0_0_0, k0_pay2 (xP x 0) (wqP wq)⟩]) : sProp 𝕄)
      ⊢ (qM.view.loc (c : Thread nD τ) ↦{fullShare} (qB x wq)) :=
  Entails.of_eq (congrArg (qPt c) (qM_stores x wq fq))

theorem bar_below (c : Dev nD) : ∀ x ∈ duesAfter c, 1 < lvK x.2 := by revert c; decide
theorem ring_below (c : Dev nD) : ∀ x ∈ duesRing c, 2 < lvK x.2 := by revert c; decide

/-- The conditions of the program, on device 0 and elsewhere. -/
theorem cond1_dev0 : k0_cond1 dev0 = 1#1 := by decide +kernel
theorem cond1_other (c : Dev nD) (h : c ≠ dev0) : ¬ k0_cond1 c = 1#1 := by revert c; decide +kernel
/-- The device's word, and the two later conditions on it. -/
abbrev devWord (c : Dev nD) : BitVec 32 := Scalar.remsi (Scalar.divsi (Dev.word c) 1#32) 8#32
abbrev cond2 (c : Dev nD) : BitVec 1 := Scalar.cmpi .ne (Scalar.extui (Scalar.cmpi .eq (devWord c) 0#32) : BitVec 32) 0#32
abbrev cond3 (c : Dev nD) : BitVec 1 := Scalar.cmpi .ne (Scalar.extui (Scalar.cmpi .ne (devWord c) 0#32) : BitVec 32) 0#32
theorem cond2_dev0 : cond2 dev0 = 1#1 := by decide +kernel
theorem cond3_dev0 : ¬ cond3 dev0 = 1#1 := by decide +kernel
theorem cond2_other (c : Dev nD) (h : c ≠ dev0) : ¬ cond2 c = 1#1 := by revert c; decide +kernel
theorem cond3_other (c : Dev nD) (h : c ≠ dev0) : cond3 c = 1#1 := by revert c; decide +kernel

omit [Named F] in
theorem srcAll_eq : srcAll m = iprop((srcK m dev0 ∗ srcV m dev0) ∗ (srcK m (sdev 0) ∗ srcV m (sdev 0)) ∗ (srcK m (sdev 1) ∗ srcV m (sdev 1))
    ∗ (srcK m (sdev 2) ∗ srcV m (sdev 2)) ∗ (srcK m (sdev 3) ∗ srcV m (sdev 3)) ∗ (srcK m (sdev 4) ∗ srcV m (sdev 4))
    ∗ (srcK m (sdev 5) ∗ srcV m (sdev 5)) ∗ (srcK m (sdev 6) ∗ srcV m (sdev 6))) := bigSep_dev _
omit [FloatOps F] [Named F] in
theorem kvGot_dev0 : (kvGot (F := F) dev0 : sProp 𝕄) ⊢ iprop(kvAny (F := F) (sdev 0) ∗ kvAny (F := F) (sdev 1) ∗ kvAny (F := F) (sdev 2) ∗ kvAny (F := F) (sdev 3)
    ∗ kvAny (F := F) (sdev 4) ∗ kvAny (F := F) (sdev 5) ∗ kvAny (F := F) (sdev 6)) := by
  unfold kvGot; rw [if_pos rfl, bigSep_seven]
omit [Named F] in
theorem scatIn_intro (i : Fin 7) : iprop((srcK m (sdev i) ∗ srcV m (sdev i)) ∗ kvAny (F := F) (sdev i) ∗ scatTok (F := F) i) ⊢ scatIn m i := by
  unfold scatIn scatTok
  iintro ⟨⟨A, B⟩, C, D⟩
  isplitl [A]; · iexact A
  isplitl [B]; · iexact B
  isplitl [C] <;> iassumption
omit [Named F] in
theorem scatOut_elim (i : Fin 7) : (scatOut m i : sProp 𝕄)
    ⊢ iprop((srcK m (sdev i) ∗ srcV m (sdev i)) ∗ (zer (F := F) dev0 (.scat i 0) ∗ zer (F := F) dev0 (.scat i 1))) := by
  unfold scatOut
  iintro ⟨A, B, C⟩
  isplitr [C]
  · isplitl [A] <;> iassumption
  · iexact C

/-- What is left assembles to the stretch's end, on device 0 and elsewhere. -/
theorem stretchOut_intro0 :
    iprop(owesX dev0 (duesRing dev0) ∗ kPts dev0 (kSlice m dev0) ∗ vPts dev0 (vSlice m dev0)
      ∗ (cmAny (prt 0 dev0) 0 ∗ cmAny (prt 1 dev0) 1 ∗ cmAny (prt 2 dev0) 2) ∗ semVal (kcell (dev0, none)) 0
      ∗ ((zer (F := F) dev0 (.scat 0 0) ∗ zer (F := F) dev0 (.scat 0 1)) ∗ (zer (F := F) dev0 (.scat 1 0) ∗ zer (F := F) dev0 (.scat 1 1)) ∗ (zer (F := F) dev0 (.scat 2 0) ∗ zer (F := F) dev0 (.scat 2 1)) ∗ (zer (F := F) dev0 (.scat 3 0) ∗ zer (F := F) dev0 (.scat 3 1)) ∗ (zer (F := F) dev0 (.scat 4 0) ∗ zer (F := F) dev0 (.scat 4 1)) ∗ (zer (F := F) dev0 (.scat 5 0) ∗ zer (F := F) dev0 (.scat 5 1)) ∗ (zer (F := F) dev0 (.scat 6 0) ∗ zer (F := F) dev0 (.scat 6 1)))
      ∗ (zer (F := F) dev0 (.recv 0) ∗ zer (F := F) dev0 (.recv 1)) ∗ (zer (F := F) dev0 (.loc 0) ∗ zer (F := F) dev0 (.loc 1))
      ∗ (srcK m dev0 ∗ srcV m dev0) ∗ (srcK m (sdev 0) ∗ srcV m (sdev 0)) ∗ (srcK m (sdev 1) ∗ srcV m (sdev 1)) ∗ (srcK m (sdev 2) ∗ srcV m (sdev 2)) ∗ (srcK m (sdev 3) ∗ srcV m (sdev 3)) ∗ (srcK m (sdev 4) ∗ srcV m (sdev 4)) ∗ (srcK m (sdev 5) ∗ srcV m (sdev 5)) ∗ (srcK m (sdev 6) ∗ srcV m (sdev 6)))
      ⊢ stretchOut m dev0 := by
  unfold stretchOut kvZer kvBack
  rw [if_pos rfl, srcAll_eq, bigSep_seven]
  iintro ⟨A, B, C, D, E, G, H, I, J⟩
  isplitl [A]; · iexact A
  isplitl [B]; · iexact B
  isplitl [C]; · iexact C
  isplitl [D]; · iexact D
  isplitl [E]; · iexact E
  isplitr [J]
  · isplitl [G]; · iexact G
    isplitl [H] <;> iassumption
  · iexact J
theorem stretchOut_intro1 (c : Dev nD) (hc : c ≠ dev0) :
    iprop(owesX c (duesRing c) ∗ kPts c (kSlice m c) ∗ vPts c (vSlice m c)
      ∗ (cmAny (prt 0 c) 0 ∗ cmAny (prt 1 c) 1 ∗ cmAny (prt 2 c) 2) ∗ semVal (kcell (c, none)) 0
      ∗ ((zer (F := F) c (.scat 0 0) ∗ zer (F := F) c (.scat 0 1)) ∗ (zer (F := F) c (.scat 1 0) ∗ zer (F := F) c (.scat 1 1)) ∗ (zer (F := F) c (.scat 2 0) ∗ zer (F := F) c (.scat 2 1)) ∗ (zer (F := F) c (.scat 3 0) ∗ zer (F := F) c (.scat 3 1)) ∗ (zer (F := F) c (.scat 4 0) ∗ zer (F := F) c (.scat 4 1)) ∗ (zer (F := F) c (.scat 5 0) ∗ zer (F := F) c (.scat 5 1)) ∗ (zer (F := F) c (.scat 6 0) ∗ zer (F := F) c (.scat 6 1)))
      ∗ (zer (F := F) c (.recv 0) ∗ zer (F := F) c (.recv 1)) ∗ (zer (F := F) c (.loc 0) ∗ zer (F := F) c (.loc 1)))
      ⊢ stretchOut m c := by
  unfold stretchOut kvZer kvBack
  rw [if_neg hc, bigSep_seven]
  iintro ⟨A, B, C, D, E, G, H, I⟩
  isplitl [A]; · iexact A
  isplitl [B]; · iexact B
  isplitl [C]; · iexact C
  isplitl [D]; · iexact D
  isplitl [E]; · iexact E
  isplitl [G H I]
  · isplitl [G]; · iexact G
    isplitl [H] <;> iassumption
  · iempintro

set_option maxHeartbeats 4000000 in
/-- From the last signal to the queries and the landed keys and values, on device 0. -/
theorem stretch0 (x : OutC F) (wq : WqC F) (fq : QC F) (v18 : BitVec 32) (Q : PUnit → sProp 𝕄) :
    iprop(records m a0 K ∗ levAts L lv ∗ stretchIn m dev0 ∗ xPt dev0 x ∗ wqPt dev0 wq
        ∗ qPt dev0 fq
        ∗ ((stretchOut m dev0 ∗ xPt dev0 x ∗ wqPt dev0 wq
            ∗ qPt dev0 (qB x wq)) -∗ Q ⟨⟩))
      ⊢ WP dev0 (k0_part9 (F := F) xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 dev0 (Scalar.remsi (Scalar.divsi (Dev.word dev0) 1#32) 8#32) (SemArray.scalar (sig.barrier 0 rfl)) v18) Q := by
  unfold WP
  simp only [k0_part9_eq_skeleton]
  unfold k0_part9_skel
  simp only [dif_pos cond1_dev0, dif_pos cond2_dev0, dif_neg cond3_dev0, k0_part1_eq_skeleton, k0_part2_eq_skeleton, k0_part3_eq_skeleton,
    k0_part4_eq_skeleton, k0_part5_eq_skeleton, k0_part6_eq_skeleton, k0_part7_eq_skeleton, k0_part1_skel, k0_part2_skel, k0_part3_skel,
    k0_part4_skel, k0_part5_skel, k0_part6_skel, k0_part7_skel, semSignalWord, semWaitWord, Prog.lift, Prog.bind_op, Prog.bind_ret, Prog.pure_eq_ret]
  unfold stretchIn kvPos kvTok kvKept
  rw [if_pos rfl, if_pos rfl, bigSep_seven, bigSep_seven]
  unfold sigIn
  iintro ⟨#HR, #Hlev, ⟨HO, ⟨T7, P7⟩, Cb, Ab, Hkv, ⟨⟨Q0, Q1, Q2, Q3, Q4, Q5, Q6⟩, ⟨Pr0, Pr1⟩, ⟨Pl0, Pl1⟩⟩, ⟨Hsrc, ⟨T0, T1, T2, T3, T4, T5, T6⟩, Tl0, Tl1⟩⟩, Hx, Hwq, Hq, Hk⟩
  iapply (wp_sig m a0 K dev0 7 (duesAfter dev0)) $$ [HO T7 P7]
  · isplitr; · iexact HR
    isplitl [HO]; · iexact HO
    isplitl [T7] <;> iassumption
  iintro HO
  iapply (wp_barwait m a0 K dev0 (duesAfter dev0) (bar_below dev0)) $$ [HO Cb Ab]
  · isplitr; · iexact HR
    isplitr; · iexact Hlev
    isplitl [Cb]; · iexact Cb
    isplitl [HO] <;> iassumption
  iintro ⟨HO, Hpay, Zb⟩
  ihave Hpay := (barPays_elim (F := F) dev0) $$ Hpay
  icases Hpay with ⟨Hgot, Hcm⟩
  ihave Hgot := kvGot_dev0 (F := F) $$ Hgot
  icases Hgot with ⟨G0, G1, G2, G3, G4, G5, G6⟩
  ihave Hsrc := (Entails.of_eq (srcAll_eq m)) $$ Hsrc
  icases Hsrc with ⟨⟨SK, SV⟩, S0, S1, S2, S3, S4, S5, S6⟩
  ihave Hkv := (show (kvAny (F := F) dev0 : sProp 𝕄) ⊢ iprop((∃ f : KvC F, kPts dev0 f) ∗ (∃ f : KvC F, vPts dev0 f)) from BI.Entails.refl _) $$ Hkv
  icases Hkv with ⟨HK, HV⟩
  iapply (wp_locK m a0 K rfl rfl) $$ [SK HK Tl0]
  · isplitr; · iexact HR
    isplitl [SK]; · iexact SK
    isplitl [HK] <;> iassumption
  iintro Cl0
  iapply (wp_locV m a0 K rfl rfl) $$ [SV HV Tl1]
  · isplitr; · iexact HR
    isplitl [SV]; · iexact SV
    isplitl [HV] <;> iassumption
  iintro Cl1
  ihave S0 := (scatIn_intro m 0) $$ [S0 G0 T0]
  · isplitl [S0]; · iexact S0
    isplitl [G0] <;> iassumption
  iapply (wp_scat m a0 K 0 (by decide +kernel) (by decide +kernel) rfl rfl rfl rfl rfl rfl (duesKv.drop 2 ++ duesRing dev0)) $$ [S0 HO]
  · isplitr; · iexact HR
    isplitl [S0]; · iexact S0
    iexact HO
  iintro ⟨M0, HO⟩
  ihave S1 := (scatIn_intro m 1) $$ [S1 G1 T1]
  · isplitl [S1]; · iexact S1
    isplitl [G1] <;> iassumption
  iapply (wp_scat m a0 K 1 (by decide +kernel) (by decide +kernel) rfl rfl rfl rfl rfl rfl (duesKv.drop 4 ++ duesRing dev0)) $$ [S1 HO]
  · isplitr; · iexact HR
    isplitl [S1]; · iexact S1
    iexact HO
  iintro ⟨M1, HO⟩
  ihave S2 := (scatIn_intro m 2) $$ [S2 G2 T2]
  · isplitl [S2]; · iexact S2
    isplitl [G2] <;> iassumption
  iapply (wp_scat m a0 K 2 (by decide +kernel) (by decide +kernel) rfl rfl rfl rfl rfl rfl (duesKv.drop 6 ++ duesRing dev0)) $$ [S2 HO]
  · isplitr; · iexact HR
    isplitl [S2]; · iexact S2
    iexact HO
  iintro ⟨M2, HO⟩
  ihave S3 := (scatIn_intro m 3) $$ [S3 G3 T3]
  · isplitl [S3]; · iexact S3
    isplitl [G3] <;> iassumption
  iapply (wp_scat m a0 K 3 (by decide +kernel) (by decide +kernel) rfl rfl rfl rfl rfl rfl (duesKv.drop 8 ++ duesRing dev0)) $$ [S3 HO]
  · isplitr; · iexact HR
    isplitl [S3]; · iexact S3
    iexact HO
  iintro ⟨M3, HO⟩
  ihave S4 := (scatIn_intro m 4) $$ [S4 G4 T4]
  · isplitl [S4]; · iexact S4
    isplitl [G4] <;> iassumption
  iapply (wp_scat m a0 K 4 (by decide +kernel) (by decide +kernel) rfl rfl rfl rfl rfl rfl (duesKv.drop 10 ++ duesRing dev0)) $$ [S4 HO]
  · isplitr; · iexact HR
    isplitl [S4]; · iexact S4
    iexact HO
  iintro ⟨M4, HO⟩
  ihave S5 := (scatIn_intro m 5) $$ [S5 G5 T5]
  · isplitl [S5]; · iexact S5
    isplitl [G5] <;> iassumption
  iapply (wp_scat m a0 K 5 (by decide +kernel) (by decide +kernel) rfl rfl rfl rfl rfl rfl (duesKv.drop 12 ++ duesRing dev0)) $$ [S5 HO]
  · isplitr; · iexact HR
    isplitl [S5]; · iexact S5
    iexact HO
  iintro ⟨M5, HO⟩
  ihave S6 := (scatIn_intro m 6) $$ [S6 G6 T6]
  · isplitl [S6]; · iexact S6
    isplitl [G6] <;> iassumption
  iapply (wp_scat m a0 K 6 (by decide +kernel) (by decide +kernel) rfl rfl rfl rfl rfl rfl (duesKv.drop 14 ++ duesRing dev0)) $$ [S6 HO]
  · isplitr; · iexact HR
    isplitl [S6]; · iexact S6
    iexact HO
  iintro ⟨M6, HO⟩
  unfold WP xPt wqPt qPt
  sl_exec
  iapply (wp_dwait m a0 K dev0 (.loc 0) rfl (duesRing dev0) (ring_below dev0) rfl NK_eq) $$ [Cl0 Pl0 HO]
  · isplitr; · iexact HR
    isplitr; · iexact Hlev
    isplitl [Cl0]; · iexact Cl0
    isplitl [HO]; · iexact HO
    iexact Pl0
  iintro ⟨HO, HK, Zl0⟩
  ihave HK := (Entails.of_eq (payO_locK m a0 dev0)) $$ HK
  icases HK with ⟨HK, SK⟩
  iapply (wp_dwait m a0 K dev0 (.loc 1) rfl (duesRing dev0) (ring_below dev0) rfl vM_credit) $$ [Cl1 Pl1 HO]
  · isplitr; · iexact HR
    isplitr; · iexact Hlev
    isplitl [Cl1]; · iexact Cl1
    isplitl [HO]; · iexact HO
    iexact Pl1
  iintro ⟨HO, HV, Zl1⟩
  ihave HV := (Entails.of_eq (payO_locV m a0 dev0)) $$ HV
  icases HV with ⟨HV, SV⟩
  ihave Q0 := (Entails.of_eq (show (iprop(pos (F := F) dev0 (.scat 0 0) ∗ pos (F := F) dev0 (.scat 0 1)) : sProp 𝕄) = scatPos (F := F) 0 from rfl)) $$ Q0
  iapply (wp_scatwait m a0 K 0 (duesRing dev0) (ring_below dev0) rfl rfl rfl rfl) $$ [M0 Q0 HO]
  · isplitr; · iexact HR
    isplitr; · iexact Hlev
    isplitl [M0]; · iexact M0
    isplitl [Q0] <;> iassumption
  iintro ⟨B0, HO⟩
  ihave B0 := (scatOut_elim m 0) $$ B0
  icases B0 with ⟨B0, Z0⟩
  ihave Q1 := (Entails.of_eq (show (iprop(pos (F := F) dev0 (.scat 1 0) ∗ pos (F := F) dev0 (.scat 1 1)) : sProp 𝕄) = scatPos (F := F) 1 from rfl)) $$ Q1
  iapply (wp_scatwait m a0 K 1 (duesRing dev0) (ring_below dev0) rfl rfl rfl rfl) $$ [M1 Q1 HO]
  · isplitr; · iexact HR
    isplitr; · iexact Hlev
    isplitl [M1]; · iexact M1
    isplitl [Q1] <;> iassumption
  iintro ⟨B1, HO⟩
  ihave B1 := (scatOut_elim m 1) $$ B1
  icases B1 with ⟨B1, Z1⟩
  ihave Q2 := (Entails.of_eq (show (iprop(pos (F := F) dev0 (.scat 2 0) ∗ pos (F := F) dev0 (.scat 2 1)) : sProp 𝕄) = scatPos (F := F) 2 from rfl)) $$ Q2
  iapply (wp_scatwait m a0 K 2 (duesRing dev0) (ring_below dev0) rfl rfl rfl rfl) $$ [M2 Q2 HO]
  · isplitr; · iexact HR
    isplitr; · iexact Hlev
    isplitl [M2]; · iexact M2
    isplitl [Q2] <;> iassumption
  iintro ⟨B2, HO⟩
  ihave B2 := (scatOut_elim m 2) $$ B2
  icases B2 with ⟨B2, Z2⟩
  ihave Q3 := (Entails.of_eq (show (iprop(pos (F := F) dev0 (.scat 3 0) ∗ pos (F := F) dev0 (.scat 3 1)) : sProp 𝕄) = scatPos (F := F) 3 from rfl)) $$ Q3
  iapply (wp_scatwait m a0 K 3 (duesRing dev0) (ring_below dev0) rfl rfl rfl rfl) $$ [M3 Q3 HO]
  · isplitr; · iexact HR
    isplitr; · iexact Hlev
    isplitl [M3]; · iexact M3
    isplitl [Q3] <;> iassumption
  iintro ⟨B3, HO⟩
  ihave B3 := (scatOut_elim m 3) $$ B3
  icases B3 with ⟨B3, Z3⟩
  ihave Q4 := (Entails.of_eq (show (iprop(pos (F := F) dev0 (.scat 4 0) ∗ pos (F := F) dev0 (.scat 4 1)) : sProp 𝕄) = scatPos (F := F) 4 from rfl)) $$ Q4
  iapply (wp_scatwait m a0 K 4 (duesRing dev0) (ring_below dev0) rfl rfl rfl rfl) $$ [M4 Q4 HO]
  · isplitr; · iexact HR
    isplitr; · iexact Hlev
    isplitl [M4]; · iexact M4
    isplitl [Q4] <;> iassumption
  iintro ⟨B4, HO⟩
  ihave B4 := (scatOut_elim m 4) $$ B4
  icases B4 with ⟨B4, Z4⟩
  ihave Q5 := (Entails.of_eq (show (iprop(pos (F := F) dev0 (.scat 5 0) ∗ pos (F := F) dev0 (.scat 5 1)) : sProp 𝕄) = scatPos (F := F) 5 from rfl)) $$ Q5
  iapply (wp_scatwait m a0 K 5 (duesRing dev0) (ring_below dev0) rfl rfl rfl rfl) $$ [M5 Q5 HO]
  · isplitr; · iexact HR
    isplitr; · iexact Hlev
    isplitl [M5]; · iexact M5
    isplitl [Q5] <;> iassumption
  iintro ⟨B5, HO⟩
  ihave B5 := (scatOut_elim m 5) $$ B5
  icases B5 with ⟨B5, Z5⟩
  ihave Q6 := (Entails.of_eq (show (iprop(pos (F := F) dev0 (.scat 6 0) ∗ pos (F := F) dev0 (.scat 6 1)) : sProp 𝕄) = scatPos (F := F) 6 from rfl)) $$ Q6
  iapply (wp_scatwait m a0 K 6 (duesRing dev0) (ring_below dev0) rfl rfl rfl rfl) $$ [M6 Q6 HO]
  · isplitr; · iexact HR
    isplitr; · iexact Hlev
    isplitl [M6]; · iexact M6
    isplitl [Q6] <;> iassumption
  iintro ⟨B6, HO⟩
  ihave B6 := (scatOut_elim m 6) $$ B6
  icases B6 with ⟨B6, Z6⟩
  imod (close_unused m a0 K dev0 (.recv 0) (by decide)) $$ [Pr0] with Zr0
  · isplitr; · iexact HR
    iexact Pr0
  imod (close_unused m a0 K dev0 (.recv 1) (by decide)) $$ [Pr1] with Zr1
  · isplitr; · iexact HR
    iexact Pr1
  iapply wp_done
  iapply Hk
  isplitr [Hx Hwq Hq]
  · iapply (stretchOut_intro0 m)
    isplitl [HO]; · iexact HO
    isplitl [HK]; · iexact HK
    isplitl [HV]; · iexact HV
    isplitl [Hcm]; · iexact Hcm
    isplitl [Zb]; · iexact Zb
    isplitl [Z0 Z1 Z2 Z3 Z4 Z5 Z6]
    · isplitl [Z0]; · iexact Z0
      isplitl [Z1]; · iexact Z1
      isplitl [Z2]; · iexact Z2
      isplitl [Z3]; · iexact Z3
      isplitl [Z4]; · iexact Z4
      isplitl [Z5] <;> iassumption
    isplitl [Zr0 Zr1]; · isplitl [Zr0] <;> iassumption
    isplitl [Zl0 Zl1]; · isplitl [Zl0] <;> iassumption
    isplitl [SK SV]; · isplitl [SK] <;> iassumption
    isplitl [B0]; · iexact B0
    isplitl [B1]; · iexact B1
    isplitl [B2]; · iexact B2
    isplitl [B3]; · iexact B3
    isplitl [B4]; · iexact B4
    isplitl [B5] <;> iassumption
  · isplitl [Hx]; · iexact Hx
    isplitl [Hwq]; · iexact Hwq
    iapply (qM_stored dev0 x wq fq)
    iexact Hq

/-- The conditions elsewhere than on device 0. -/
theorem not_scat (c : Dev nD) (h : c ≠ dev0) (i : Fin 7) (j : Fin 2) : ¬ activeO c (.scat i j) := h
theorem not_loc (c : Dev nD) (h : c ≠ dev0) (j : Fin 2) : ¬ activeO c (.loc j) := h

/-- A pair of cells that the device does not use closes. -/
theorem close_pair (c : Dev nD) (k k' : OKey) (hk : ¬ activeO c k) (hk' : ¬ activeO c k') :
    iprop(records m a0 K ∗ (pos (F := F) c k ∗ pos (F := F) c k')) ⊢ |={Set.univ}=> iprop(zer (F := F) c k ∗ zer (F := F) c k') := by
  iintro ⟨#HR, P, P'⟩
  imod (close_unused m a0 K c k hk) $$ [P] with Z
  · isplitr; · iexact HR
    iexact P
  imod (close_unused m a0 K c k' hk') $$ [P'] with Z'
  · isplitr; · iexact HR
    iexact P'
  imodintro
  isplitl [Z] <;> iassumption

set_option maxHeartbeats 4000000 in
/-- The same stretch on the other devices. -/
theorem stretch1 (c : Dev nD) (hc : c ≠ dev0) (x : OutC F) (wq : WqC F) (fq : QC F) (v18 : BitVec 32) (Q : PUnit → sProp 𝕄) :
    iprop(records m a0 K ∗ levAts L lv ∗ stretchIn m c ∗ xPt c x ∗ wqPt c wq ∗ qPt c fq
        ∗ ((stretchOut m c ∗ xPt c x ∗ wqPt c wq ∗ qPt c (qB x wq)) -∗ Q ⟨⟩))
      ⊢ WP c (k0_part9 (F := F) xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 c (Scalar.remsi (Scalar.divsi (Dev.word c) 1#32) 8#32) (SemArray.scalar (sig.barrier 0 rfl)) v18) Q := by
  unfold WP
  simp only [k0_part9_eq_skeleton]
  unfold k0_part9_skel
  simp only [dif_neg (cond1_other c hc), dif_neg (cond2_other c hc), dif_pos (cond3_other c hc), semSignalWord, semWaitWord, Prog.lift, Prog.bind_op,
    Prog.bind_ret, Prog.pure_eq_ret]
  unfold stretchIn kvPos kvTok kvKept duesAfter
  rw [if_neg hc, if_neg hc, if_neg hc, bigSep_seven]
  unfold sigIn
  iintro ⟨#HR, #Hlev, ⟨HO, ⟨T7, P7⟩, Cb, Ab, -, ⟨⟨Q0, Q1, Q2, Q3, Q4, Q5, Q6⟩, ⟨Pr0, Pr1⟩, Pl⟩, ⟨Cr0, Cr1⟩⟩, Hx, Hwq, Hq, Hk⟩
  iapply (wp_sig m a0 K c 7 (duesRing c)) $$ [HO T7 P7]
  · isplitr; · iexact HR
    isplitl [HO]; · iexact HO
    isplitl [T7] <;> iassumption
  iintro HO
  iapply (wp_barwait m a0 K c (duesRing c) (fun x hx => Nat.lt_of_succ_lt (ring_below c x hx))) $$ [HO Cb Ab]
  · isplitr; · iexact HR
    isplitr; · iexact Hlev
    isplitl [Cb]; · iexact Cb
    isplitl [HO] <;> iassumption
  iintro ⟨HO, Hpay, Zb⟩
  ihave Hpay := (barPays_elim (F := F) c) $$ Hpay
  icases Hpay with ⟨-, Hcm⟩
  unfold WP xPt wqPt qPt
  sl_exec
  iapply (wp_dwait m a0 K c (.recv 0) hc (duesRing c) (ring_below c) rfl NK_eq) $$ [Cr0 Pr0 HO]
  · isplitr; · iexact HR
    isplitr; · iexact Hlev
    isplitl [Cr0]; · iexact Cr0
    isplitl [HO]; · iexact HO
    iexact Pr0
  iintro ⟨HO, HK, Zr0⟩
  iapply (wp_dwait m a0 K c (.recv 1) hc (duesRing c) (ring_below c) rfl vM_credit) $$ [Cr1 Pr1 HO]
  · isplitr; · iexact HR
    isplitr; · iexact Hlev
    isplitl [Cr1]; · iexact Cr1
    isplitl [HO]; · iexact HO
    iexact Pr1
  iintro ⟨HO, HV, Zr1⟩
  imod (close_pair m a0 K c (.loc 0) (.loc 1) hc hc) $$ [Pl] with Zl
  · isplitr; · iexact HR
    iexact Pl
  imod (close_pair m a0 K c (.scat 0 0) (.scat 0 1) hc hc) $$ [Q0] with Z0
  · isplitr; · iexact HR
    iexact Q0
  imod (close_pair m a0 K c (.scat 1 0) (.scat 1 1) hc hc) $$ [Q1] with Z1
  · isplitr; · iexact HR
    iexact Q1
  imod (close_pair m a0 K c (.scat 2 0) (.scat 2 1) hc hc) $$ [Q2] with Z2
  · isplitr; · iexact HR
    iexact Q2
  imod (close_pair m a0 K c (.scat 3 0) (.scat 3 1) hc hc) $$ [Q3] with Z3
  · isplitr; · iexact HR
    iexact Q3
  imod (close_pair m a0 K c (.scat 4 0) (.scat 4 1) hc hc) $$ [Q4] with Z4
  · isplitr; · iexact HR
    iexact Q4
  imod (close_pair m a0 K c (.scat 5 0) (.scat 5 1) hc hc) $$ [Q5] with Z5
  · isplitr; · iexact HR
    iexact Q5
  imod (close_pair m a0 K c (.scat 6 0) (.scat 6 1) hc hc) $$ [Q6] with Z6
  · isplitr; · iexact HR
    iexact Q6
  iapply wp_done
  iapply Hk
  isplitr [Hx Hwq Hq]
  · iapply (stretchOut_intro1 m c hc)
    isplitl [HO]; · iexact HO
    isplitl [HK]; · iapply (Entails.of_eq (payO_recvK m a0 c)); iexact HK
    isplitl [HV]; · iapply (Entails.of_eq (payO_recvV m a0 c)); iexact HV
    isplitl [Hcm]; · iexact Hcm
    isplitl [Zb]; · iexact Zb
    isplitl [Z0 Z1 Z2 Z3 Z4 Z5 Z6]
    · isplitl [Z0]; · iexact Z0
      isplitl [Z1]; · iexact Z1
      isplitl [Z2]; · iexact Z2
      isplitl [Z3]; · iexact Z3
      isplitl [Z4]; · iexact Z4
      isplitl [Z5] <;> iassumption
    isplitl [Zr0 Zr1]; · isplitl [Zr0] <;> iassumption
    iexact Zl
  · isplitl [Hx]; · iexact Hx
    isplitl [Hwq]; · iexact Hwq
    iapply (qM_stored c x wq fq)
    iexact Hq

/-- The stretch, on every device. -/
theorem stretch (c : Dev nD) (x : OutC F) (wq : WqC F) (fq : QC F) (v18 : BitVec 32) (Q : PUnit → sProp 𝕄) :
    iprop(records m a0 K ∗ levAts L lv ∗ stretchIn m c ∗ xPt c x ∗ wqPt c wq ∗ qPt c fq
        ∗ ((stretchOut m c ∗ xPt c x ∗ wqPt c wq ∗ qPt c (qB x wq)) -∗ Q ⟨⟩))
      ⊢ WP c (k0_part9 (F := F) xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 c (Scalar.remsi (Scalar.divsi (Dev.word c) 1#32) 8#32) (SemArray.scalar (sig.barrier 0 rfl)) v18) Q := by
  by_cases hc : c = dev0
  · subst hc; exact stretch0 m a0 K x wq fq v18 Q
  · exact stretch1 m a0 K c hc x wq fq v18 Q

end Cert.KProof

end
-- ==== Proof.Tail.lean ====
/-
# From the attention to the summed output
-/
module

public import proofs.«01_k».proof.Proof.Stretch

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (a0 : Dev nD → OutC F) (K : CK → ℕ)

/-- The body from the attention on. -/
def tailP (c : Dev nD) (v2 : BitVec 32) : Prog (TpuEff nD τ sig (Elt F) Λ₀ .tc) PUnit := do
  let ⟨v69, v72, v91⟩ : Σ' (v69 : IVec S512x512 32) (v72 : IVec S512x512 32), IVec S512x512 1 ← k0_part10 xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9
  let ⟨v95, v121, v122⟩ : Σ' (v95 : IVec S512x512 1) (v121 : FVec F S512x64 .f32), Vec F S1x512x1x64 .f32 ← k0_part11 xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 v69 v72 v91
  let v157 : FVec F S512x512 .f32 ← k0_part12 xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 v95 v121 v122
  let v188 : FVec F S512x64 .f32 ← k0_part13 xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 v95 v157
  let ⟨v217, v218⟩ : Σ' (v217 : FVec F S512x64 .f32), Vec F S1x512x1x64 .f32 ← k0_part14 xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 v95 v188
  let v253 : FVec F S512x512 .f32 ← k0_part15 xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 v95 v217 v218
  let v284 : FVec F S512x64 .f32 ← k0_part16 xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 v95 v253
  let ⟨v313, v314⟩ : Σ' (v313 : FVec F S512x64 .f32), Vec F S1x512x1x64 .f32 ← k0_part17 xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 v95 v284
  let v349 : FVec F S512x512 .f32 ← k0_part18 xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 v95 v313 v314
  let v380 : FVec F S512x64 .f32 ← k0_part19 xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 v95 v349
  let ⟨v409, v410⟩ : Σ' (v409 : FVec F S512x64 .f32), Vec F S1x512x1x64 .f32 ← k0_part20 xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 v95 v380
  let v445 : FVec F S512x512 .f32 ← k0_part21 xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 v95 v409 v410
  let v476 : FVec F S512x64 .f32 ← k0_part22 xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 v95 v445
  let v496 : BitVec 32 ← k0_part23 xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 c v2 v476
  let v521 : BitVec 32 ← k0_part24 xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 v2 v496
  let v546 : BitVec 32 ← k0_part25 xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 c v2 v521
  let v553 : Memref sig .tc .vmem S1x2x512x768 .f32 := cmM.slice (Rect.unit (s := S3x2x512x768) ![2, 0, 0, 0] S1x2x512x768.size inb_S3x2x512x768_S1x2x512x768_2_0_0_0) (fun _ => rfl)
  let v554 : Memref sig .tc .vmem S2x512x768 .f32 := v553.squeeze S2x512x768 squeezes_S1x2x512x768_S2x512x768
  let v549 : DmaSems sig S1 := cc0_scratch7.slice (Rect.unit (s := S3) ![2] S1.size inb_S3_S1_2)
  let v550 : DmaSems sig S_ := v549.squeeze S_ squeezes_S1_S_
  let v551 : DmaSems sig S1 := cc0_scratch8.slice (Rect.unit (s := S3) ![2] S1.size inb_S3_S1_2)
  let v552 : DmaSems sig S_ := v551.squeeze S_ squeezes_S1_S_
  Prog.lift (.enqueueDma oM (.remote (Dev.tc (⟨k0_dev25 c, k0_dev25_lt c⟩ : Dev nD)) v554 (.dma v550.sem)) (.dma v552.sem) (Memref.isWhole_whole _).wordExact ((View.wordExact_bits rfl).reshape _ _) ⟨⟨rfl, Or.inl rfl⟩, trivial⟩)
  let v555 : DmaSems sig S1 := cc0_scratch7.slice (Rect.unit (s := S3) ![2] S1.size inb_S3_S1_2)
  let v556 : DmaSems sig S_ := v555.squeeze S_ squeezes_S1_S_
  let v557 : Memref sig .tc .vmem S1x2x512x768 .f32 := cmM.slice (Rect.unit (s := S3x2x512x768) ![2, 0, 0, 0] S1x2x512x768.size inb_S3x2x512x768_S1x2x512x768_2_0_0_0) (fun _ => rfl)
  let v558 : Memref sig .tc .vmem S2x512x768 .f32 := v557.squeeze S2x512x768 squeezes_S1x2x512x768_S2x512x768
  Prog.lift (.waitDma2 v556.sem v558 oM ((View.wordExact_bits rfl).reshape _ _) (Memref.isWhole_whole _).wordExact)
  let v561 : DmaSems sig S1 := cc0_scratch8.slice (Rect.unit (s := S3) ![2] S1.size inb_S3_S1_2)
  let v562 : DmaSems sig S_ := v561.squeeze S_ squeezes_S1_S_
  let v563 : Memref sig .tc .vmem S1x2x512x768 .f32 := cmM.slice (Rect.unit (s := S3x2x512x768) ![2, 0, 0, 0] S1x2x512x768.size inb_S3x2x512x768_S1x2x512x768_2_0_0_0) (fun _ => rfl)
  let v564 : Memref sig .tc .vmem S2x512x768 .f32 := v563.squeeze S2x512x768 squeezes_S1x2x512x768_S2x512x768
  Prog.lift (.waitDma2 v562.sem oM v564 (Memref.isWhole_whole _).wordExact ((View.wordExact_bits rfl).reshape _ _))
  let v565 : Vec F S2x512x768 .f32 ← Prog.lift (.load oM (Rect.unit (s := S2x512x768) ![0, 0, 0] S2x512x768.size inb_S2x512x768_S2x512x768_0_0_0).toLoadRect (View.loadsAt_vmem h_S2x512x768))
  let v566 : FVec F S2x512x768 .f32 ← pure (k0_pay40 v565)
  let v567 : Vec F S1x2x512x768 .f32 ← Prog.lift (.load cmM (Rect.unit (s := S3x2x512x768) ![2, 0, 0, 0] S1x2x512x768.size inb_S3x2x512x768_S1x2x512x768_2_0_0_0).toLoadRect (View.loadsAt_vmem h_S1x2x512x768))
  let v570 : Vec F S2x512x768 .f32 ← Prog.lift (.load oM (Rect.unit (s := S2x512x768) ![0, 0, 0] S2x512x768.size inb_S2x512x768_S2x512x768_0_0_0).toLoadRect (View.loadsAt_vmem h_S2x512x768))
  Prog.lift (.store oM (Rect.unit (s := S2x512x768) ![0, 0, 0] S2x512x768.size inb_S2x512x768_S2x512x768_0_0_0) (k0_pay1 v566 v567) Finset.univ (View.stores_vmem_bits_univ h_S2x512x768 rfl) (.inl rfl))
  pure ⟨⟩

/-- What a round of the butterfly takes and gives, besides the output window. -/
def ringIn (c : Dev nD) (r : Fin 3) : sProp 𝕄 :=
  iprop(tok (F := F) c (.rsend r) ∗ tok (F := F) (prt r c) (.rrecv r) ∗ crd (F := F) c (.rrecv r) ∗ pos (F := F) c (.rsend r) ∗ pos (F := F) c (.rrecv r))
def ringZer (c : Dev nD) (r : Fin 3) : sProp 𝕄 := iprop(zer (F := F) c (.rsend r) ∗ zer (F := F) c (.rrecv r))

theorem payO_rsend (c : Dev nD) (r : Fin 3) : payO m a0 c (.rsend r) = oPts c (acc a0 r c) := rfl
theorem payO_rrecv (c : Dev nD) (r : Fin 3) : payO m a0 c (.rrecv r) = cmHas c r (acc a0 r (prt r c)) := rfl

/-- The exchange of round `r` and its two waits. -/
theorem wp_round (c : Dev nD) (r : Fin 3) {n : Dev nD} (hn : n = prt r c) {dst dst1 dst2 : Memref sig .tc .vmem S2x512x768 .f32}
    (hds : dst = cmS r) (hd2 : dst2 = cmS r)
    {sS sR sS' sR' : DmaSem sig} (hS : sS = (⟨oidx (.rsend r), oidx_lt _⟩ : DmaSem sig)) (hRv : sR = (⟨oidx (.rrecv r), oidx_lt _⟩ : DmaSem sig))
    (hS' : sS' = (⟨oidx (.rsend r), oidx_lt _⟩ : DmaSem sig)) (hRv' : sR' = (⟨oidx (.rrecv r), oidx_lt _⟩ : DmaSem sig))
    {hsc : (dst : Memref sig (Dev.tc n : Thread nD τ).2.kind .vmem S2x512x768 .f32).view.ref.isScScratch = false}
    {hsrc : oM.view.WordExact} {hdst : dst.view.WordExact}
    {hsem : DmaTarget.Typed (nD := nD) (τ := τ) .vmem (.dma sR) (.remote (Dev.tc n : Thread nD τ) (dst : Memref sig .tc .vmem S2x512x768 .f32) (.dma sS) hsc)}
    {h1 : dst1.view.WordExact} {h2 : oM.view.WordExact} {h1' : oM.view.WordExact} {h2' : dst2.view.WordExact}
    (l : List CK) (hl : ∀ x ∈ l, 3 + r.val < lvK x.2)
    {α : Type} {kk : PUnit → Prog (TpuEff nD τ sig (Elt F) Λ₀ .tc) α} {Q : α → sProp 𝕄} :
    iprop(records m a0 K ∗ levAts L lv ∗ oPts c (acc a0 r c) ∗ cmAny (prt r c) r ∗ ringIn (F := F) c r ∗ owesX c ((prt r c, some (.rrecv r)) :: l))
      ⊢ iprop(((oPts c (acc a0 r c) ∗ cmHas c r (acc a0 r (prt r c)) ∗ ringZer (F := F) c r ∗ owesX c l) -∗ WP c (kk ⟨⟩) Q)
        -∗ WP c (.op (.enqueueDma oM (.remote (Dev.tc n : Thread nD τ) dst (.dma sS) hsc) (.dma sR) hsrc hdst hsem) fun _ =>
            .op (.waitDma2 sS' dst1 oM h1 h2) fun _ => .op (.waitDma2 sR' oM dst2 h1' h2') kk) Q) := by
  subst hd2
  unfold ringIn ringZer
  iintro ⟨#HR, #Hlev, Ho, Hcm, ⟨T1, T2, C2, P1, P2⟩, HO⟩ Hk
  iapply (wp_ring m a0 K c r hn hds hS hRv l) $$ [Ho Hcm T1 T2 HO]
  · isplitr; · iexact HR
    isplitl [Ho]; · iexact Ho
    isplitl [Hcm]; · iexact Hcm
    isplitl [HO]; · iexact HO
    isplitl [T1] <;> iassumption
  iintro ⟨C1, HO⟩
  iapply (wp_dwait m a0 K c (.rsend r) trivial l hl hS' NO_eq) $$ [C1 P1 HO]
  · isplitr; · iexact HR
    isplitr; · iexact Hlev
    isplitl [C1]; · iexact C1
    isplitl [HO] <;> iassumption
  rw [payO_rsend]
  iintro ⟨HO, Ho, Z1⟩
  iapply (wp_dwait m a0 K c (.rrecv r) trivial l hl hRv' (cmS_credit r)) $$ [C2 P2 HO]
  · isplitr; · iexact HR
    isplitr; · iexact Hlev
    isplitl [C2]; · iexact C2
    isplitl [HO] <;> iassumption
  rw [payO_rrecv]
  iintro ⟨HO, Hcm, Z2⟩
  iapply Hk
  isplitl [Ho]; · iexact Ho
  isplitl [Hcm]; · iexact Hcm
  isplitr [HO]
  · isplitl [Z1] <;> iassumption
  · iexact HO

/-- A slot of the landing buffer, loaded whole and cast to its own shape. -/
theorem slot_value (r : Fin 3) (f : cc0_scratch4.ty.Contents (Elt F)) (inb : ∀ a, (![r.val, 0, 0, 0] : Fin 4 → ℕ) a + S1x2x512x768.size a ≤ S3x2x512x768.size a) :
    shapeCast S2x512x768 (cmM.view.readAt (Elt F) (Rect.unit (s := S3x2x512x768) ![r.val, 0, 0, 0] S1x2x512x768.size inb).toLoadRect f)
      shapeCasts_S1x2x512x768_S2x512x768 = (cmS r).view.read (Elt F) f := rfl

/-- The output after a round: what it held plus what landed. -/
theorem round_value (r : Fin 3) (A B : OutC F) (f : cc0_scratch4.ty.Contents (Elt F)) (he : (cmS r).view.read (Elt F) f = B)
    (inb : ∀ a, (![r.val, 0, 0, 0] : Fin 4 → ℕ) a + S1x2x512x768.size a ≤ S3x2x512x768.size a) :
    oM.view.writes (Elt F) A [⟨Rect.unit (s := S2x512x768) ![0, 0, 0] S2x512x768.size inb_S2x512x768_S2x512x768_0_0_0,
      k0_pay38 (oM.view.readAt (Elt F) (Rect.unit (s := S2x512x768) ![0, 0, 0] S2x512x768.size inb_S2x512x768_S2x512x768_0_0_0).toLoadRect A)
        (cmM.view.readAt (Elt F) (Rect.unit (s := S3x2x512x768) ![r.val, 0, 0, 0] S1x2x512x768.size inb).toLoadRect f)⟩] = addf A B := by
  refine writes_whole cc0_stg3_0 A _ _ ?_ (View.cover_of_tiled (s := S2x512x768) _ S2x512x768.size rfl)
  intro p hp x
  obtain rfl := List.mem_singleton.mp hp
  have e1 : (oM.view.readAt (Elt F) (Rect.unit (s := S2x512x768) ![0, 0, 0] S2x512x768.size inb_S2x512x768_S2x512x768_0_0_0).toLoadRect A) = A :=
    Memref.readAt_unit_zero (Elt F) cc0_stg3_0 (by decide) _ A
  have e2 : ∀ i : S2x512x768.Idx, (Rect.unit (s := S2x512x768) ![0, 0, 0] S2x512x768.size inb_S2x512x768_S2x512x768_0_0_0).emb i = i := fun i => by
    funext a
    match a with
    | ⟨0, _⟩ => exact Fin.ext (by show 0 + 1 * (i 0).val = (i 0).val; omega)
    | ⟨1, _⟩ => exact Fin.ext (by show 0 + 1 * (i 1).val = (i 1).val; omega)
    | ⟨2, _⟩ => exact Fin.ext (by show 0 + 1 * (i 2).val = (i 2).val; omega)
  show k0_pay38 _ _ x = addf A B ((Rect.unit (s := S2x512x768) ![0, 0, 0] S2x512x768.size inb_S2x512x768_S2x512x768_0_0_0).emb x)
  rw [e2, e1]
  show addf (shapeCast S2x512x768 A _) (shapeCast S2x512x768 _ _) x = _
  rw [slot_value, he, show shapeCast S2x512x768 A shapeCasts_S2x512x768_S2x512x768 = A from funext fun i => congrArg A (Shape.reshapeEquiv_self _ i)]

/-- The three rounds' bundles. -/
def ringIn3 (c : Dev nD) : sProp 𝕄 := iprop(ringIn (F := F) c 0 ∗ ringIn (F := F) c 1 ∗ ringIn (F := F) c 2)
def ringZer3 (c : Dev nD) : sProp 𝕄 := iprop(ringZer (F := F) c 0 ∗ ringZer (F := F) c 1 ∗ ringZer (F := F) c 2)

set_option pp.deepTerms false in
set_option pp.deepTerms.threshold 3 in
set_option maxHeartbeats 4000000 in
/-- From the queries, keys and values to the summed output. -/
theorem tail (c : Dev nD) (v2 : BitVec 32) (fq fc : QC F) (fk fv : KvC F) (fw : WoC F) (fo : OutC F) (h0 : outB fq fk fv fw = a0 c)
    (Q : PUnit → sProp 𝕄) :
    iprop(records m a0 K ∗ levAts L lv ∗ owesX c (duesRing c) ∗ kPts c fk ∗ vPts c fv ∗ qPt c fq ∗ ctxPt c fc ∗ woPt c fw ∗ oPts c fo
        ∗ (cmAny (prt 0 c) 0 ∗ cmAny (prt 1 c) 1 ∗ cmAny (prt 2 c) 2) ∗ ringIn3 (F := F) c
        ∗ ((owesX c [] ∗ kPts c fk ∗ vPts c fv ∗ qPt c fq ∗ (∃ fc', ctxPt c fc') ∗ woPt c fw ∗ oPts c (acc a0 3 c)
            ∗ (cmAny c 0 ∗ cmAny c 1 ∗ cmAny c 2) ∗ ringZer3 (F := F) c) -∗ Q ⟨⟩))
      ⊢ WP c (tailP (F := F) c v2) Q := by
  unfold WP tailP
  simp only [k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, Prog.lift, Prog.bind_op, Prog.bind_ret, Prog.pure_eq_ret]
  rw [kPts_eq, vPts_eq, oPts_eq c fo]
  unfold qPt ctxPt woPt ringIn3
  iintro ⟨#HR, #Hlev, HO, Hk, Hv, Hq, Hctx, Hw, Ho, ⟨Cm0, Cm1, Cm2⟩, ⟨R0, R1, R2⟩, HQ⟩
  sl_exec
  have hL : ∀ f, ctxM.view.writes (Elt F) f (tail.sl.Hctx_16 fq fk fv) = ctxB fq fk fv := fun f => by
    refine writes_whole ctxM.view.ref f _ _ ?_ (View.cover_of_tiled (s := S2x512x512) _ S1x512x64.size rfl)
    unfold tail.sl.Hctx_16
    intro p hp
    rcases List.mem_cons.mp hp with rfl | hp; exact ctxB_piece fq fk fv 1 7
    rcases List.mem_cons.mp hp with rfl | hp; exact ctxB_piece fq fk fv 1 6
    rcases List.mem_cons.mp hp with rfl | hp; exact ctxB_piece fq fk fv 1 5
    rcases List.mem_cons.mp hp with rfl | hp; exact ctxB_piece fq fk fv 1 4
    rcases List.mem_cons.mp hp with rfl | hp; exact ctxB_piece fq fk fv 1 3
    rcases List.mem_cons.mp hp with rfl | hp; exact ctxB_piece fq fk fv 1 2
    rcases List.mem_cons.mp hp with rfl | hp; exact ctxB_piece fq fk fv 1 1
    rcases List.mem_cons.mp hp with rfl | hp; exact ctxB_piece fq fk fv 1 0
    rcases List.mem_cons.mp hp with rfl | hp; exact ctxB_piece fq fk fv 0 7
    rcases List.mem_cons.mp hp with rfl | hp; exact ctxB_piece fq fk fv 0 6
    rcases List.mem_cons.mp hp with rfl | hp; exact ctxB_piece fq fk fv 0 5
    rcases List.mem_cons.mp hp with rfl | hp; exact ctxB_piece fq fk fv 0 4
    rcases List.mem_cons.mp hp with rfl | hp; exact ctxB_piece fq fk fv 0 3
    rcases List.mem_cons.mp hp with rfl | hp; exact ctxB_piece fq fk fv 0 2
    rcases List.mem_cons.mp hp with rfl | hp; exact ctxB_piece fq fk fv 0 1
    rcases List.mem_cons.mp hp with rfl | hp; exact ctxB_piece fq fk fv 0 0
    exact absurd hp (List.not_mem_nil)
  have hx : tail.sl.x fq fk fv = ctxP (ctxB fq fk fv) 0 := by
    unfold tail.sl.x
    rw [View.readCov, hL]; rfl
  have hx1 : tail.sl.x_1 fq fk fv = ctxP (ctxB fq fk fv) 1 := by
    unfold tail.sl.x_1
    rw [View.readCov, hL]; rfl
  have hO : ∀ f, oM.view.writes (Elt F) f
      [⟨Rect.unit (s := S2x512x768) ![1, 0, 0] S1x512x768.size inb_S2x512x768_S1x512x768_1_0_0, k0_pay37 (tail.sl.x_1 fq fk fv) (woP fw)⟩,
        ⟨Rect.unit (s := S2x512x768) ![0, 0, 0] S1x512x768.size inb_S2x512x768_S1x512x768_0_0_0, k0_pay36 (tail.sl.x fq fk fv) (woP fw)⟩]
      = acc a0 0 c := fun f => by
    rw [hx, hx1]
    refine (writes_whole oM.view.ref f _ (outB fq fk fv fw) ?_ (View.cover_of_tiled (s := S2x512x768) _ S1x512x768.size rfl)).trans h0
    intro p hp
    rcases List.mem_cons.mp hp with rfl | hp; exact outB_piece fq fk fv fw 1
    rcases List.mem_cons.mp hp with rfl | hp; exact outB_piece fq fk fv fw 0
    exact absurd hp (List.not_mem_nil)
  ihave Ho := (show (oM.view.loc (c : Thread nD τ) ↦{fullShare} oM.view.writes (Elt F) fo
      [⟨Rect.unit (s := S2x512x768) ![1, 0, 0] S1x512x768.size inb_S2x512x768_S1x512x768_1_0_0, k0_pay37 (tail.sl.x_1 fq fk fv) (woM.view.readAt (Elt F) (Rect.unit (s := S512x768) ![0, 0] S512x768.size inb_S512x768_S512x768_0_0).toLoadRect fw)⟩,
        ⟨Rect.unit (s := S2x512x768) ![0, 0, 0] S1x512x768.size inb_S2x512x768_S1x512x768_0_0_0, k0_pay36 (tail.sl.x fq fk fv) (woM.view.readAt (Elt F) (Rect.unit (s := S512x768) ![0, 0] S512x768.size inb_S512x768_S512x768_0_0).toLoadRect fw)⟩] : sProp 𝕄)
      ⊢ oPts c (acc a0 0 c) from (by rw [oPts_eq]; exact Entails.of_eq (congrArg (fun f => (oM.view.loc (c : Thread nD τ) ↦{fullShare} f : sProp 𝕄)) (hO fo)))) $$ Ho
  iapply (wp_round m a0 K c 0 (dev23_eq c) rfl rfl rfl rfl rfl rfl [(prt 1 c, some (.rrecv 1)), (prt 2 c, some (.rrecv 2))]
      (fun x hx => by simp only [List.mem_cons, List.not_mem_nil, or_false] at hx; rcases hx with rfl | rfl; exact (by decide : 3 + 0 < lvK (some (OKey.rrecv 1))); exact (by decide : 3 + 0 < lvK (some (OKey.rrecv 2))))) $$ [Ho Cm0 R0 HO]
  · isplitr; · iexact HR
    isplitr; · iexact Hlev
    isplitl [Ho]; · iexact Ho
    isplitl [Cm0]; · iexact Cm0
    isplitl [R0]; · iexact R0
    iexact HO
  iintro ⟨Ho, Hc0, Z0, HO⟩
  unfold cmHas WP
  icases Hc0 with ⟨%f0, %e0, Hc0⟩
  ihave Ho := (show oPts c (acc a0 (0 : Fin 3) c) ⊢ (oM.view.loc (c : Thread nD τ) ↦{fullShare} acc a0 0 c : sProp 𝕄) from Entails.of_eq (oPts_eq c (acc a0 0 c))) $$ Ho
  sl_exec
  ihave Ho := (show (oM.view.loc (c : Thread nD τ) ↦{fullShare} oM.view.writes (Elt F) (acc a0 0 c)
      [⟨Rect.unit (s := S2x512x768) ![0, 0, 0] S2x512x768.size inb_S2x512x768_S2x512x768_0_0_0,
      k0_pay38 (oM.view.readAt (Elt F) (Rect.unit (s := S2x512x768) ![0, 0, 0] S2x512x768.size inb_S2x512x768_S2x512x768_0_0_0).toLoadRect (acc a0 0 c))
        (cmM.view.readAt (Elt F) (Rect.unit (s := S3x2x512x768) ![0, 0, 0, 0] S1x2x512x768.size inb_S3x2x512x768_S1x2x512x768_0_0_0_0).toLoadRect f0)⟩] : sProp 𝕄)
      ⊢ oPts c (acc a0 1 c) from (by rw [oPts_eq]; exact Entails.of_eq (congrArg (fun f => (oM.view.loc (c : Thread nD τ) ↦{fullShare} f : sProp 𝕄))
        (round_value 0 (acc a0 0 c) (acc a0 0 (prt 0 c)) f0 e0 _)))) $$ Ho
  iapply (wp_round m a0 K c 1 (dev24_eq c) rfl rfl rfl rfl rfl rfl [(prt 2 c, some (.rrecv 2))]
      (fun x hx => by simp only [List.mem_cons, List.not_mem_nil, or_false] at hx; subst hx; exact (by decide : 3 + 1 < lvK (some (OKey.rrecv 2))))) $$ [Ho Cm1 R1 HO]
  · isplitr; · iexact HR
    isplitr; · iexact Hlev
    isplitl [Ho]; · iexact Ho
    isplitl [Cm1]; · iexact Cm1
    isplitl [R1]; · iexact R1
    iexact HO
  iintro ⟨Ho, Hc1, Z1, HO⟩
  unfold cmHas WP
  icases Hc1 with ⟨%f1, %e1, Hc1⟩
  ihave Ho := (show oPts c (acc a0 (1 : Fin 3) c) ⊢ (oM.view.loc (c : Thread nD τ) ↦{fullShare} acc a0 1 c : sProp 𝕄) from Entails.of_eq (oPts_eq c (acc a0 1 c))) $$ Ho
  sl_exec
  ihave Ho := (show (oM.view.loc (c : Thread nD τ) ↦{fullShare} oM.view.writes (Elt F) (acc a0 1 c)
      [⟨Rect.unit (s := S2x512x768) ![0, 0, 0] S2x512x768.size inb_S2x512x768_S2x512x768_0_0_0,
      k0_pay39 (oM.view.readAt (Elt F) (Rect.unit (s := S2x512x768) ![0, 0, 0] S2x512x768.size inb_S2x512x768_S2x512x768_0_0_0).toLoadRect (acc a0 1 c))
        (cmM.view.readAt (Elt F) (Rect.unit (s := S3x2x512x768) ![1, 0, 0, 0] S1x2x512x768.size inb_S3x2x512x768_S1x2x512x768_1_0_0_0).toLoadRect f1)⟩] : sProp 𝕄)
      ⊢ oPts c (acc a0 2 c) from (by rw [oPts_eq]; exact Entails.of_eq (congrArg (fun f => (oM.view.loc (c : Thread nD τ) ↦{fullShare} f : sProp 𝕄))
        (round_value 1 (acc a0 1 c) (acc a0 1 (prt 1 c)) f1 e1 _)))) $$ Ho
  iapply (wp_round m a0 K c 2 (dev25_eq c) rfl rfl rfl rfl rfl rfl []
      (fun x hx => absurd hx List.not_mem_nil)) $$ [Ho Cm2 R2 HO]
  · isplitr; · iexact HR
    isplitr; · iexact Hlev
    isplitl [Ho]; · iexact Ho
    isplitl [Cm2]; · iexact Cm2
    isplitl [R2]; · iexact R2
    iexact HO
  iintro ⟨Ho, Hc2, Z2, HO⟩
  unfold cmHas WP
  icases Hc2 with ⟨%f2, %e2, Hc2⟩
  ihave Ho := (show oPts c (acc a0 (2 : Fin 3) c) ⊢ (oM.view.loc (c : Thread nD τ) ↦{fullShare} acc a0 2 c : sProp 𝕄) from Entails.of_eq (oPts_eq c (acc a0 2 c))) $$ Ho
  sl_exec
  ihave Ho := (show (oM.view.loc (c : Thread nD τ) ↦{fullShare} oM.view.writes (Elt F) (acc a0 2 c)
      [⟨Rect.unit (s := S2x512x768) ![0, 0, 0] S2x512x768.size inb_S2x512x768_S2x512x768_0_0_0,
      k0_pay1 (k0_pay40 (oM.view.readAt (Elt F) (Rect.unit (s := S2x512x768) ![0, 0, 0] S2x512x768.size inb_S2x512x768_S2x512x768_0_0_0).toLoadRect (acc a0 2 c)))
        (cmM.view.readAt (Elt F) (Rect.unit (s := S3x2x512x768) ![2, 0, 0, 0] S1x2x512x768.size inb_S3x2x512x768_S1x2x512x768_2_0_0_0).toLoadRect f2)⟩] : sProp 𝕄)
      ⊢ oPts c (acc a0 3 c) from (by rw [oPts_eq]; exact Entails.of_eq (congrArg (fun f => (oM.view.loc (c : Thread nD τ) ↦{fullShare} f : sProp 𝕄))
        (round_value 2 (acc a0 2 c) (acc a0 2 (prt 2 c)) f2 e2 _)))) $$ Ho
  iapply (wp_done c ⟨⟩ Q)
  iapply HQ
  isplitl [HO]; · iexact HO
  isplitl [Hk]; · iexact Hk
  isplitl [Hv]; · iexact Hv
  isplitl [Hq]; · iexact Hq
  isplitl [Hctx]; · iexists _; iexact Hctx
  isplitl [Hw]; · iexact Hw
  isplitl [Ho]; · iexact Ho
  isplitl [Hc0 Hc1 Hc2]
  · unfold cmAny
    isplitl [Hc0]; · iexists _; iexact Hc0
    isplitl [Hc1] <;> (iexists _; iassumption)
  unfold ringZer3
  isplitl [Z0]; · iexact Z0
  isplitl [Z1] <;> iassumption

end Cert.KProof

end
-- ==== Proof.Body.lean ====
/-
# The body on one device
-/
module

public import proofs.«01_k».proof.Proof.Tail
public import Idealize.ShloMosaic.Lib.Ring

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (a0 : Dev nD → OutC F) (K : CK → ℕ)

/-- The body in three stretches: the signals, the exchange of keys and values, the rest. -/
theorem body_eq : cc0_body (F := F) xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9
    = k0_part8 (F := F) xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 >>= fun r =>
      k0_part9 (F := F) xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9 r.1 r.2.1 r.2.2.1 r.2.2.2 >>= fun _ => tailP r.1 r.2.1 := by
  rw [cc0_body_eq_skeleton]; unfold cc0_body_skel
  rw [k0_part26_eq_skeleton]; unfold k0_part26_skel
  simp only [bind_assoc]
  rfl

/-! ## Buffers held whole and in pieces -/

omit [FloatOps F] [Named F] in
theorem cmS_set (r : Fin 3) : (cmS r).view.set = (Rect.unit (s := S3x2x512x768) ![r.val, 0, 0, 0] S1x2x512x768.size (cm_inb r)).set := by
  show ((cmM.view.slice _).reshape _ _).set = _
  rw [View.set_reshape]
  exact View.set_slice_whole cc0_scratch4 _

/-- The box of slot `r`. -/
abbrev cmBox (r : Fin 3) : Finset S3x2x512x768.Idx := (Rect.unit (s := S3x2x512x768) ![r.val, 0, 0, 0] S1x2x512x768.size (cm_inb r)).set

theorem cm_disjoint (r r' : Fin 3) (h : r ≠ r') : Disjoint (cmBox r) (cmBox r') :=
  Ring.lead_disjoint (s := S3x2x512x768) (0 : Fin 4) 1 (fun b : Fin 3 => ![b.val, 0, 0, 0]) S1x2x512x768.size cm_inb (by decide) (by decide) r r' h

theorem cm_cover : Finset.univ.biUnion cmBox = Finset.univ :=
  Ring.lead_cover (s := S3x2x512x768) (0 : Fin 4) 1 (fun b : Fin 3 => ![b.val, 0, 0, 0]) S1x2x512x768.size cm_inb
    (by decide) (by decide) (by decide) (by decide) (by decide)

omit [FloatOps F] [Named F] in
theorem cmAny_eq (c : Dev nD) (r : Fin 3) : (cmAny c r : sProp 𝕄)
    = iprop(∃ f : Buf (Elt F) ((c : Thread nD τ).loc cc0_scratch4), ((c : Thread nD τ).loc cc0_scratch4) ↦[cmBox r]{fullShare} f) := by
  unfold cmAny
  rw [cmS_set]

/-- The landing buffer of `c`, whole, at some contents. -/
def cmWhole (c : Dev nD) : sProp 𝕄 := iprop(∃ f : Buf (Elt F) ((c : Thread nD τ).loc cc0_scratch4), ((c : Thread nD τ).loc cc0_scratch4) ↦{fullShare} f)

omit [FloatOps F] [Named F] in
theorem cm_split (c : Dev nD) : (cmWhole c : sProp 𝕄) ⊢ iprop(cmAny c 0 ∗ cmAny c 1 ∗ cmAny c 2) := by
  unfold cmWhole
  rw [← bigSep_three (F := F) (fun r => cmAny c r)]
  iintro ⟨%f, H⟩
  ihave H := (Entails.of_eq (Ring.pointsTo_blocks (ℓ := (c : Thread nD τ).loc cc0_scratch4) (q := fullShare) cmBox cm_disjoint cm_cover f)) $$ H
  iapply (show (bigSep Finset.univ fun r : Fin 3 => ((c : Thread nD τ).loc cc0_scratch4 ↦[cmBox r]{fullShare} f : sProp 𝕄))
    ⊢ bigSep Finset.univ (fun r => cmAny c r) from bigSep_mono fun r _ =>
      (show ((c : Thread nD τ).loc cc0_scratch4 ↦[cmBox r]{fullShare} f : sProp 𝕄) ⊢ _ from by iintro H; iexists f; iexact H).trans (Entails.of_eq (cmAny_eq c r).symm))
  iexact H

omit [FloatOps F] [Named F] in
theorem cm_join (c : Dev nD) (f₀ : Buf (Elt F) ((c : Thread nD τ).loc cc0_scratch4)) : iprop(cmAny c 0 ∗ cmAny c 1 ∗ cmAny c 2) ⊢ (cmWhole c : sProp 𝕄) := by
  rw [← bigSep_three (F := F) (fun r => cmAny c r)]
  simp only [cmAny_eq]
  exact Ring.pointsTo_blocks_join_exists (ℓ := (c : Thread nD τ).loc cc0_scratch4) (q := fullShare) cmBox cm_disjoint cm_cover f₀

omit [FloatOps F] [Named F] in
theorem kSrc_set (d : Dev nD) : (kSrc d).view.set = (Rect.unit (s := S2x512x64x64) ![0, 0, 8 * d.val, 0] S2x512x8x64.size (src_inb d)).set :=
  View.set_slice_whole main_arg2 _
omit [FloatOps F] [Named F] in
theorem vSrc_set (d : Dev nD) : (vSrc d).view.set = (Rect.unit (s := S2x512x64x64) ![0, 0, 8 * d.val, 0] S2x512x8x64.size (src_inb d)).set :=
  View.set_slice_whole main_arg3 _
/-- The box of head slice `d`. -/
abbrev srcBox (d : Dev nD) : Finset S2x512x64x64.Idx := (Rect.unit (s := S2x512x64x64) ![0, 0, 8 * d.val, 0] S2x512x8x64.size (src_inb d)).set
theorem src_disjoint (d d' : Dev nD) (h : d ≠ d') : Disjoint (srcBox d) (srcBox d') :=
  Ring.lead_disjoint (s := S2x512x64x64) (2 : Fin 4) 8 (fun b : Fin 8 => ![0, 0, 8 * b.val, 0]) S2x512x8x64.size src_inb (by decide) (by decide) d d' h
theorem src_cover : Finset.univ.biUnion srcBox = Finset.univ :=
  Ring.lead_cover (s := S2x512x64x64) (2 : Fin 4) 8 (fun b : Fin 8 => ![0, 0, 8 * b.val, 0]) S2x512x8x64.size src_inb
    (by decide) (by decide) (by decide) (by decide) (by decide)

/-- The key and value operands of `c`, whole, as launched. -/
def restPts (c : Dev nD) : sProp 𝕄 :=
  iprop((((c : Thread nD τ).loc main_arg2) ↦{fullShare} m ((c : Thread nD τ).loc main_arg2))
    ∗ (((c : Thread nD τ).loc main_arg3) ↦{fullShare} m ((c : Thread nD τ).loc main_arg3)))

omit [FloatOps F] [Named F] in
theorem srcK_eq (d : Dev nD) : (srcK m d : sProp 𝕄) = (((dev0 : Thread nD τ).loc main_arg2) ↦[srcBox d]{fullShare} m ((dev0 : Thread nD τ).loc main_arg2)) := by
  unfold srcK; rw [kSrc_set]
omit [FloatOps F] [Named F] in
theorem srcV_eq (d : Dev nD) : (srcV m d : sProp 𝕄) = (((dev0 : Thread nD τ).loc main_arg3) ↦[srcBox d]{fullShare} m ((dev0 : Thread nD τ).loc main_arg3)) := by
  unfold srcV; rw [vSrc_set]

omit [FloatOps F] [Named F] in
theorem srcAll_whole : (srcAll m : sProp 𝕄) = restPts m dev0 := by
  have hk : (bigSep Finset.univ fun d => srcK m d : sProp 𝕄) = (((dev0 : Thread nD τ).loc main_arg2) ↦{fullShare} m ((dev0 : Thread nD τ).loc main_arg2)) :=
    (bigSep_congr fun d _ => srcK_eq m d).trans
      (Ring.pointsTo_blocks (ℓ := (dev0 : Thread nD τ).loc main_arg2) (q := fullShare) srcBox src_disjoint src_cover _).symm
  have hv : (bigSep Finset.univ fun d => srcV m d : sProp 𝕄) = (((dev0 : Thread nD τ).loc main_arg3) ↦{fullShare} m ((dev0 : Thread nD τ).loc main_arg3)) :=
    (bigSep_congr fun d _ => srcV_eq m d).trans
      (Ring.pointsTo_blocks (ℓ := (dev0 : Thread nD τ).loc main_arg3) (q := fullShare) srcBox src_disjoint src_cover _).symm
  unfold srcAll restPts
  rw [bigSep_sep', hk, hv]

/-! ## What the body takes and gives -/

/-- The rights to pay, as dealt to device `c`. -/
def kvTokT (c : Dev nD) : sProp 𝕄 :=
  if c = dev0 then iprop((bigSep Finset.univ fun i : Fin 7 => scatTok (F := F) i) ∗ tok (F := F) dev0 (.loc 0) ∗ tok (F := F) dev0 (.loc 1))
  else iprop(emp)
def ringTok (c : Dev nD) : sProp 𝕄 :=
  iprop((tok (F := F) c (.rsend 0) ∗ tok (F := F) c (.rsend 1) ∗ tok (F := F) c (.rsend 2))
    ∗ (tok (F := F) (prt 0 c) (.rrecv 0) ∗ tok (F := F) (prt 1 c) (.rrecv 1) ∗ tok (F := F) (prt 2 c) (.rrecv 2)))
def barTok (c : Dev nD) : sProp 𝕄 := bigSep Finset.univ fun d : Dev nD => dutyTok ER (kcell (d, none)) 0 c
/-- The positions of the semaphores of the butterfly. -/
def ringPos (c : Dev nD) : sProp 𝕄 :=
  iprop((pos (F := F) c (.rsend 0) ∗ pos (F := F) c (.rsend 1) ∗ pos (F := F) c (.rsend 2))
    ∗ (pos (F := F) c (.rrecv 0) ∗ pos (F := F) c (.rrecv 1) ∗ pos (F := F) c (.rrecv 2)))
def linear (c : Dev nD) : sProp 𝕄 :=
  iprop(atPos ER (kcell (c, none)) 0 ∅ 0 ∗ kvPos (F := F) c ∗ ringPos (F := F) c ∗ barTok (F := F) c ∗ kvTokT (F := F) c ∗ ringTok (F := F) c)

/-- The credit for what other devices will pay to `c`. -/
def kvCrd (c : Dev nD) : sProp 𝕄 := if c = dev0 then iprop(emp) else iprop(crd (F := F) c (.recv 0) ∗ crd (F := F) c (.recv 1))
def creds (c : Dev nD) : sProp 𝕄 :=
  iprop(cred (tallyAt (kcell (c, none)) () 8) ∗ kvCrd (F := F) c ∗ crd (F := F) c (.rrecv 0) ∗ crd (F := F) c (.rrecv 1) ∗ crd (F := F) c (.rrecv 2))

omit [Named F] in
theorem kvTok_intro (c : Dev nD) : iprop(restPts m c ∗ kvTokT (F := F) c ∗ kvCrd (F := F) c)
    ⊢ iprop(kvTok m c ∗ if c = dev0 then iprop(emp) else restPts m c) := by
  unfold kvTok kvTokT kvCrd
  by_cases h : c = dev0
  · subst h
    rw [if_pos rfl, if_pos rfl, if_pos rfl, if_pos rfl, srcAll_whole]
    iintro ⟨Hr, ⟨H1, H2, H3⟩, -⟩
    isplitl
    · isplitl [Hr]; · iexact Hr
      isplitl [H1]; · iexact H1
      isplitl [H2] <;> iassumption
    · iempintro
  · rw [if_neg h, if_neg h, if_neg h, if_neg h]
    iintro ⟨Hr, -, H⟩
    isplitl [H] <;> iassumption

omit [Named F] in
theorem kvBack_elim (c : Dev nD) : iprop(kvBack m c ∗ if c = dev0 then iprop(emp) else restPts m c) ⊢ restPts m c := by
  unfold kvBack
  by_cases h : c = dev0
  · subst h
    rw [if_pos rfl, if_pos rfl, srcAll_whole]
    iintro ⟨Hr, -⟩; iexact Hr
  · rw [if_neg h, if_neg h]
    iintro ⟨-, Hr⟩; iexact Hr

/-- The scratch buffers other than the landing buffer, at some contents. -/
def scrAny (c : Dev nD) : sProp 𝕄 := iprop(kvAny (F := F) c ∗ (∃ f : QC F, qPt c f) ∗ (∃ f : QC F, ctxPt c f) ∗ cmWhole c)

/-- The counters at zero, after the body. -/
def zeros (c : Dev nD) : sProp 𝕄 := iprop(semVal (kcell (c, none)) 0 ∗ kvZer (F := F) c ∗ ringZer3 (F := F) c)

theorem sigIns (c : Dev nD) : iprop(barTok (F := F) c ∗ bigSep Finset.univ fun d => barPay (F := F) d c)
    ⊢ iprop((sigIn c 0 ∗ sigIn c 1 ∗ sigIn c 2 ∗ sigIn c 3 ∗ sigIn c 4 ∗ sigIn c 5 ∗ sigIn c 6) ∗ sigIn c 7) := by
  unfold barTok
  rw [← bigSep_sep', bigSep_dev]
  unfold sigIn
  iintro ⟨H0, H1, H2, H3, H4, H5, H6, H7⟩
  isplitr [H7]
  · isplitl [H0]; · iexact H0
    isplitl [H1]; · iexact H1
    isplitl [H2]; · iexact H2
    isplitl [H3]; · iexact H3
    isplitl [H4]; · iexact H4
    isplitl [H5]; · iexact H5
    iexact H6
  · iexact H7

/-- The body, from its ghost resources and buffers to the summed output. -/
theorem body_run (c : Dev nD) (x : OutC F) (wq : WqC F) (wo : WoC F)
    (h0 : outB (qB x wq) (kSlice m c) (vSlice m c) wo = a0 c) (Q : PUnit → sProp 𝕄) :
    iprop(records m a0 K ∗ levAts L lv ∗ owesX c (dues c) ∗ linear (F := F) c ∗ creds (F := F) c ∗ restPts m c ∗ scrAny (F := F) c
        ∗ xPt c x ∗ wqPt c wq ∗ woPt c wo ∗ (∃ fo : OutC F, oPts c fo)
        ∗ ((owesX c [] ∗ zeros (F := F) c ∗ restPts m c ∗ scrAny (F := F) c ∗ xPt c x ∗ wqPt c wq ∗ woPt c wo ∗ oPts c (acc a0 3 c)) -∗ Q ⟨⟩))
      ⊢ WP c (cc0_body (F := F) xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9) Q := by
  rw [body_eq]
  unfold linear creds scrAny zeros
  iintro ⟨#HR, #Hlev, HO, ⟨Pb, Pkv, Pr, Tb, Tkv, Tr⟩, ⟨Cb, Ckv, Cr⟩, Hrest, ⟨Skv, ⟨%fq, Sq⟩, ⟨%fc, Sc⟩, Scm⟩, Hx, Hwq, Hwo, ⟨%fo, Ho⟩, HQ⟩
  ihave Scm := (cm_split c) $$ Scm
  ihave Hb := (barPays_intro c) $$ [Skv Scm]
  · isplitl [Skv] <;> iassumption
  icases Hb with ⟨Hkept, Hpays⟩
  ihave Hs := (sigIns c) $$ [Tb Hpays]
  · isplitl [Tb] <;> iassumption
  icases Hs with ⟨Hs, Hs7⟩
  ihave Hkv := (kvTok_intro m c) $$ [Hrest Tkv Ckv]
  · isplitl [Hrest]; · iexact Hrest
    isplitl [Tkv] <;> iassumption
  icases Hkv with ⟨Hkv, Hrest⟩
  iapply wp_seq
  iapply (signals m a0 K c ((7, none) :: duesAfter c))
  isplitr; · iexact HR
  isplitl [HO]; · iexact HO
  isplitl [Hs]; · iexact Hs
  iintro HO
  iapply wp_seq
  iapply (stretch m a0 K c x wq fq)
  isplitr; · iexact HR
  isplitr; · iexact Hlev
  isplitl [HO Hs7 Cb Pb Hkept Pkv Hkv]
  · unfold stretchIn
    isplitl [HO]; · iexact HO
    isplitl [Hs7]; · iexact Hs7
    isplitl [Cb]; · iexact Cb
    isplitl [Pb]; · iexact Pb
    isplitl [Hkept]; · iexact Hkept
    isplitl [Pkv] <;> iassumption
  isplitl [Hx]; · iexact Hx
  isplitl [Hwq]; · iexact Hwq
  isplitl [Sq]; · iexact Sq
  unfold stretchOut
  iintro ⟨⟨HO, Hk, Hv, Hcm, Zb, Zkv, Hback⟩, Hx, Hwq, Hq⟩
  unfold ringTok ringPos
  icases Tr with ⟨⟨T0, T1, T2⟩, ⟨U0, U1, U2⟩⟩
  icases Pr with ⟨⟨P0, P1, P2⟩, ⟨R0, R1, R2⟩⟩
  icases Cr with ⟨C0, C1, C2⟩
  iapply (tail m a0 K c _ (qB x wq) fc (kSlice m c) (vSlice m c) wo fo h0)
  isplitr; · iexact HR
  isplitr; · iexact Hlev
  isplitl [HO]; · iexact HO
  isplitl [Hk]; · iexact Hk
  isplitl [Hv]; · iexact Hv
  isplitl [Hq]; · iexact Hq
  isplitl [Sc]; · iexact Sc
  isplitl [Hwo]; · iexact Hwo
  isplitl [Ho]; · iexact Ho
  isplitl [Hcm]; · iexact Hcm
  isplitl [T0 T1 T2 U0 U1 U2 P0 P1 P2 R0 R1 R2 C0 C1 C2]
  · unfold ringIn3 ringIn
    isplitl [T0 U0 C0 P0 R0]
    · isplitl [T0]; · iexact T0
      isplitl [U0]; · iexact U0
      isplitl [C0]; · iexact C0
      isplitl [P0] <;> iassumption
    isplitl [T1 U1 C1 P1 R1]
    · isplitl [T1]; · iexact T1
      isplitl [U1]; · iexact U1
      isplitl [C1]; · iexact C1
      isplitl [P1] <;> iassumption
    · isplitl [T2]; · iexact T2
      isplitl [U2]; · iexact U2
      isplitl [C2]; · iexact C2
      isplitl [P2] <;> iassumption
  iintro ⟨HO, Hk, Hv, Hq, Hctx, Hwo, Ho, Hcm, Zr⟩
  iapply HQ
  isplitl [HO]; · iexact HO
  isplitl [Zb Zkv Zr]
  · isplitl [Zb]; · iexact Zb
    isplitl [Zkv] <;> iassumption
  isplitl [Hback Hrest]
  · iapply (kvBack_elim m c)
    isplitl [Hback] <;> iassumption
  isplitl [Hk Hv Hq Hctx Hcm]
  · isplitl [Hk Hv]
    · unfold kvAny
      isplitl [Hk]; · iexists _; iexact Hk
      iexists _; iexact Hv
    isplitl [Hq]; · iexists _; iexact Hq
    isplitl [Hctx]; · iexact Hctx
    iapply (cm_join c (View.junk (Val := Elt F) (View.whole cc0_scratch4)))
    iexact Hcm
  isplitl [Hx]; · iexact Hx
  isplitl [Hwq]; · iexact Hwq
  isplitl [Hwo] <;> iassumption

end Cert.KProof

end
-- ==== Proof.Deal.lean ====
/-
# Dealing the rights to pay and the credit at launch
-/
module

public import proofs.«01_k».proof.Proof.Body

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The semaphores, listed by what they are for -/

/-- One summand per semaphore of the kernel's own, in groups. -/
def okS (Φ : OKey → sProp 𝕄) : sProp 𝕄 :=
  iprop((bigSep Finset.univ fun i : Fin 7 => iprop(Φ (.scat i 0) ∗ Φ (.scat i 1))) ∗ (Φ (.recv 0) ∗ Φ (.recv 1)) ∗ (Φ (.loc 0) ∗ Φ (.loc 1))
    ∗ (Φ (.rsend 0) ∗ Φ (.rsend 1) ∗ Φ (.rsend 2)) ∗ (Φ (.rrecv 0) ∗ Φ (.rrecv 1) ∗ Φ (.rrecv 2)))

/-- The groups. -/
def okEquiv : (Fin 7 × Fin 2) ⊕ Fin 2 ⊕ Fin 2 ⊕ Fin 3 ⊕ Fin 3 ≃ OKey where
  toFun
    | .inl (i, j) => .scat i j
    | .inr (.inl j) => .recv j
    | .inr (.inr (.inl j)) => .loc j
    | .inr (.inr (.inr (.inl r))) => .rsend r
    | .inr (.inr (.inr (.inr r))) => .rrecv r
  invFun
    | .scat i j => .inl (i, j)
    | .recv j => .inr (.inl j)
    | .loc j => .inr (.inr (.inl j))
    | .rsend r => .inr (.inr (.inr (.inl r)))
    | .rrecv r => .inr (.inr (.inr (.inr r)))
  left_inv x := by rcases x with ⟨i, j⟩ | j | j | r | r <;> rfl
  right_inv k := by cases k <;> rfl

omit [FloatOps F] [Named F] in
theorem bigSep_two (Φ : Fin 2 → sProp 𝕄) : bigSep Finset.univ Φ = iprop(Φ 0 ∗ Φ 1) :=
  bigSep_univ_eq_bigSepL [0, 1] (by decide) (by decide) Φ

omit [FloatOps F] [Named F] in
theorem bigSep_okey (Φ : OKey → sProp 𝕄) : bigSep Finset.univ Φ = okS Φ := by
  unfold okS
  rw [bigSep_univ_equiv okEquiv, bigSep_univ_sum, bigSep_univ_sum, bigSep_univ_sum, bigSep_univ_sum, bigSep_univ_prod,
    bigSep_three, bigSep_three, bigSep_two, bigSep_two, bigSep_congr (s := Finset.univ) (fun (i : Fin 7) _ => bigSep_two fun j => Φ (okEquiv (.inl (i, j))))]
  rfl

omit [FloatOps F] [Named F] in
theorem bigSep_key (Φ : Key → sProp 𝕄) : bigSep Finset.univ Φ = iprop(Φ none ∗ okS fun k => Φ (some k)) := by
  have h : (Finset.univ : Finset Key).erase none = Finset.univ.map Function.Embedding.some := by
    ext x; cases x <;> simp
  rw [bigSep_univ_at Φ none, h, bigSep_map, bigSep_okey]
  rfl

/-! ## The rights to pay -/

/-- The rights to pay the semaphores of device `c`: at its barrier one for each device, at each other semaphore one. -/
def toks (c : Dev nD) : sProp 𝕄 :=
  iprop((bigSep Finset.univ fun d : Dev nD => dutyTok ER (kcell (c, none)) 0 d) ∗ okS fun k => tok (F := F) c k)

/-- The rights that device `c` pays with. -/
def payToks (c : Dev nD) : sProp 𝕄 := iprop(barTok (F := F) c ∗ kvTokT (F := F) c ∗ ringTok (F := F) c)

/-- The partners of round `r`, as a permutation of the devices. -/
def prtE (r : Fin 3) : Dev nD ≃ Dev nD := ⟨prt r, prt r, prt_prt r, prt_prt r⟩

omit [FloatOps F] [Named F] in
theorem rrecv_around (r : Fin 3) : (bigSep Finset.univ fun c : Dev nD => tok (F := F) c (.rrecv r) : sProp 𝕄)
    = bigSep Finset.univ fun c : Dev nD => tok (F := F) (prt r c) (.rrecv r) :=
  bigSep_univ_equiv (prtE r) _

omit [FloatOps F] [Named F] in
theorem kv_gather : iprop((bigSep Finset.univ fun c : Dev nD => bigSep Finset.univ fun i : Fin 7 => iprop(tok (F := F) c (.scat i 0) ∗ tok (F := F) c (.scat i 1)))
      ∗ (bigSep Finset.univ fun c : Dev nD => iprop(tok (F := F) c (.recv 0) ∗ tok (F := F) c (.recv 1)))
      ∗ (bigSep Finset.univ fun c : Dev nD => iprop(tok (F := F) c (.loc 0) ∗ tok (F := F) c (.loc 1))))
    ⊢ (bigSep Finset.univ fun c : Dev nD => kvTokT (F := F) c : sProp 𝕄) := by
  have hone : (iprop((bigSep Finset.univ fun i : Fin 7 => scatTok (F := F) i) ∗ tok (F := F) dev0 (.loc 0) ∗ tok (F := F) dev0 (.loc 1)) : sProp 𝕄)
      ⊢ bigSep Finset.univ fun c : Dev nD => kvTokT (F := F) c :=
    bigSep_one dev0 _ _ (by unfold kvTokT; rw [if_pos rfl]) (fun d hd => by unfold kvTokT; rw [if_neg hd])
  have hseven : (iprop((tok (F := F) 1 (.recv 0) ∗ tok (F := F) 1 (.recv 1)) ∗ (tok (F := F) 2 (.recv 0) ∗ tok (F := F) 2 (.recv 1))
        ∗ (tok (F := F) 3 (.recv 0) ∗ tok (F := F) 3 (.recv 1)) ∗ (tok (F := F) 4 (.recv 0) ∗ tok (F := F) 4 (.recv 1))
        ∗ (tok (F := F) 5 (.recv 0) ∗ tok (F := F) 5 (.recv 1)) ∗ (tok (F := F) 6 (.recv 0) ∗ tok (F := F) 6 (.recv 1))
        ∗ (tok (F := F) 7 (.recv 0) ∗ tok (F := F) 7 (.recv 1))) : sProp 𝕄)
      ⊢ bigSep Finset.univ fun i : Fin 7 => iprop(tok (F := F) (sdev i) (.recv 0) ∗ tok (F := F) (sdev i) (.recv 1)) := by
    rw [bigSep_seven]; exact BI.Entails.refl _
  iintro ⟨H1, H2, H3⟩
  iapply hone
  ihave H1 := (show (bigSep Finset.univ fun c : Dev nD => bigSep Finset.univ fun i : Fin 7 => iprop(tok (F := F) c (.scat i 0) ∗ tok (F := F) c (.scat i 1)) : sProp 𝕄)
    ⊢ bigSep Finset.univ fun i : Fin 7 => iprop(tok (F := F) dev0 (.scat i 0) ∗ tok (F := F) dev0 (.scat i 1)) from bigSep_elim (Finset.mem_univ dev0)) $$ H1
  ihave H3 := (show (bigSep Finset.univ fun c : Dev nD => iprop(tok (F := F) c (.loc 0) ∗ tok (F := F) c (.loc 1)) : sProp 𝕄)
    ⊢ iprop(tok (F := F) dev0 (.loc 0) ∗ tok (F := F) dev0 (.loc 1)) from bigSep_elim (Finset.mem_univ dev0)) $$ H3
  ihave H2 := (Entails.of_eq (bigSep_dev (F := F) fun c => iprop(tok (F := F) c (.recv 0) ∗ tok (F := F) c (.recv 1)))) $$ H2
  icases H2 with ⟨-, H2⟩
  ihave H2 := hseven $$ H2
  isplitl [H1 H2]
  · ihave H := (Entails.of_eq (bigSep_sep' Finset.univ (fun i : Fin 7 => iprop(tok (F := F) dev0 (.scat i 0) ∗ tok (F := F) dev0 (.scat i 1)))
      (fun i : Fin 7 => iprop(tok (F := F) (sdev i) (.recv 0) ∗ tok (F := F) (sdev i) (.recv 1)))).symm) $$ [H1 H2]
    · isplitl [H1] <;> iassumption
    iapply (show (bigSep Finset.univ fun i : Fin 7 => iprop((tok (F := F) dev0 (.scat i 0) ∗ tok (F := F) dev0 (.scat i 1))
        ∗ (tok (F := F) (sdev i) (.recv 0) ∗ tok (F := F) (sdev i) (.recv 1))) : sProp 𝕄) ⊢ bigSep Finset.univ fun i : Fin 7 => scatTok (F := F) i from
      bigSep_mono fun i _ => show iprop((tok (F := F) dev0 (.scat i 0) ∗ tok (F := F) dev0 (.scat i 1))
        ∗ (tok (F := F) (sdev i) (.recv 0) ∗ tok (F := F) (sdev i) (.recv 1))) ⊢ (scatTok (F := F) i : sProp 𝕄) from by
          unfold scatTok
          iintro ⟨⟨A, B⟩, C, D⟩
          isplitl [A]; · iexact A
          isplitl [C]; · iexact C
          isplitl [B] <;> iassumption)
    iexact H
  · iexact H3

omit [FloatOps F] [Named F] in
/-- The rights dealt to the devices that pay with them. -/
theorem toks_around : (bigSep Finset.univ fun c : Dev nD => toks (F := F) c : sProp 𝕄) ⊢ bigSep Finset.univ fun c : Dev nD => payToks (F := F) c := by
  unfold toks okS payToks ringTok barTok
  simp only [bigSep_sep']
  rw [bigSep_univ_comm (fun c d : Dev nD => (dutyTok ER (kcell (c, none)) 0 d : sProp 𝕄)),
    show (bigSep Finset.univ fun c : Dev nD => tok (F := F) c (.rrecv 0) : sProp 𝕄) = _ from rrecv_around 0,
    show (bigSep Finset.univ fun c : Dev nD => tok (F := F) c (.rrecv 1) : sProp 𝕄) = _ from rrecv_around 1,
    show (bigSep Finset.univ fun c : Dev nD => tok (F := F) c (.rrecv 2) : sProp 𝕄) = _ from rrecv_around 2]
  iintro ⟨H0, H1, H2, H3, H4, H5⟩
  isplitl [H0]; · iexact H0
  isplitl [H1 H2 H3]
  · iapply (kv_gather (F := F))
    simp only [bigSep_sep']
    isplitl [H1]; · iexact H1
    isplitl [H2] <;> iassumption
  isplitl [H4]; · iexact H4
  iexact H5

/-! ## The credit -/

theorem dueL_at (l : List CK) (x : CK) : dueL l (kcell x) () = l.count x * amt x.2 := by
  induction l with
  | nil => exact (Nat.zero_mul _).symm
  | cons y ys ih =>
    have e : dueL (y :: ys) (kcell x) () = dueL ys (kcell x) () + tallyAt (kcell y) () (amt y.2) (kcell x) () := by
      show (dueL ys + tallyAt (kcell y) () (amt y.2)) (kcell x) () = _
      rw [Pi.add_apply, Finsupp.add_apply]
    rw [e, ih, tallyAt_apply, List.count_cons, Nat.add_mul]
    by_cases h : y = x
    · subst h; rw [if_pos ⟨rfl, rfl⟩, if_pos (by simp), Nat.one_mul]
    · rw [if_neg (fun h' => h (kcell_injective h'.1).symm), if_neg (by simpa using h), Nat.zero_mul]

/-- What the devices owe at launch. -/
def O₀ (c : Dev nD) : CellTallies nD τ sig Unit := dueL (dues c)

theorem launch_key (ck : CK) (n : ℕ) (h : ∑ d : Dev nD, (dues d).count ck = n) :
    tallyOn (kcell ck) (launchCredit (Pipeline.owing O₀) 0 (kcell ck)) = (tallyAt (kcell ck) () (n * amt ck.2) : CellTallies nD τ sig Unit) := by
  unfold tallyAt
  refine congrArg _ (Finsupp.ext fun u => ?_)
  cases u
  rw [Pipeline.launchCredit_owing, Finsupp.single_eq_same, Finset.sum_congr rfl fun d _ => (show O₀ d (kcell ck) () = _ from dueL_at (dues d) ck),
    ← Finset.sum_mul, h]

theorem count_bar (c : Dev nD) : ∑ d : Dev nD, (dues d).count (c, none) = 8 := by revert c; decide +kernel
theorem count_rrecv (c : Dev nD) (r : Fin 3) : ∑ d : Dev nD, (dues d).count (c, some (.rrecv r)) = 1 := by revert c r; decide +kernel
theorem count_recv (c : Dev nD) (j : Fin 2) : c ≠ dev0 → ∑ d : Dev nD, (dues d).count (c, some (.recv j)) = 1 := by revert c j; decide +kernel

omit [FloatOps F] [Named F] in
theorem creds_intro (c : Dev nD) : (Pipeline.launchCred O₀ c : sProp 𝕄) ⊢ creds (F := F) c := by
  have hb : tallyOn (kcell (c, none)) (launchCredit (Pipeline.owing O₀) 0 (kcell (c, none))) = (tallyAt (kcell (c, none)) () 8 : CellTallies nD τ sig Unit) :=
    launch_key (c, none) 8 (count_bar c)
  have hr (r : Fin 3) : tallyOn (kcell (c, some (.rrecv r))) (launchCredit (Pipeline.owing O₀) 0 (kcell (c, some (.rrecv r))))
      = (tallyAt (kcell (c, some (.rrecv r))) () (amtO (.rrecv r)) : CellTallies nD τ sig Unit) :=
    (launch_key (c, some (.rrecv r)) 1 (count_rrecv c r)).trans (by rw [Nat.one_mul]; rfl)
  have hv (j : Fin 2) (h : c ≠ dev0) : tallyOn (kcell (c, some (.recv j))) (launchCredit (Pipeline.owing O₀) 0 (kcell (c, some (.recv j))))
      = (tallyAt (kcell (c, some (.recv j))) () (amtO (.recv j)) : CellTallies nD τ sig Unit) :=
    (launch_key (c, some (.recv j)) 1 (count_recv c j h)).trans (by rw [Nat.one_mul]; rfl)
  have h1 : (Pipeline.launchCred O₀ c : sProp 𝕄) ⊢ bigSep Finset.univ fun k : Key => cred (tallyOn (kcell (c, k)) (launchCredit (Pipeline.owing O₀) 0 (kcell (c, k)))) := by
    unfold Pipeline.launchCred
    refine (bigSep_subset (Finset.subset_univ (Finset.univ.map ⟨csem, csem_inj⟩))).trans ?_
    rw [bigSep_map]; exact BI.Entails.refl _
  refine h1.trans ?_
  rw [bigSep_key]
  unfold okS creds kvCrd crd
  dsimp only
  rw [hb, hr 0, hr 1, hr 2]
  by_cases h : c = dev0
  · rw [if_pos h]
    iintro ⟨Hb, -, -, -, -, H⟩
    isplitl [Hb]; · iexact Hb
    isplitr; · iempintro
    iexact H
  · rw [if_neg h, hv 0 h, hv 1 h]
    iintro ⟨Hb, -, Hv, -, -, H⟩
    isplitl [Hb]; · iexact Hb
    isplitl [Hv] <;> iassumption

end Cert.KProof

end
-- ==== Proof.Launch.lean ====
/-
# The launch: from the body on one device to the run of eight
-/
module

public import proofs.«01_k».proof.Proof.Deal
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## Contents -/

/-- The staged operands of device `c`. -/
def xstg (c : Dev nD) : OutC F := (win0_0.blk (0 : Fin 1)).view.read (Elt F) ((s₀ m ρ).mem ((c : Thread nD τ).loc main_arg0))
def wqstg (c : Dev nD) : WqC F := (win0_1.blk (0 : Fin 1)).view.read (Elt F) ((s₀ m ρ).mem ((c : Thread nD τ).loc main_arg1))
def wostg (c : Dev nD) : WoC F := (win0_2.blk (0 : Fin 1)).view.read (Elt F) ((s₀ m ρ).mem ((c : Thread nD τ).loc main_arg4))

/-- Device `c`'s partial output: its eight heads, projected. -/
def a₀ (c : Dev nD) : OutC F := outB (qB (xstg m ρ c) (wqstg m ρ c)) (kSlice m c) (vSlice m c) (wostg m ρ c)

/-- What the body starts from, besides its buffers. -/
def start (c : Dev nD) : sProp 𝕄 :=
  iprop((∃ K, records m (a₀ m ρ) K ∗ linear (F := F) c) ∗ levAts L lv ∗ creds (F := F) c ∗ restPts m c)

def Φ₀ (c : Dev nD) : sProp 𝕄 := iprop(start m ρ c ∗ scrAny (F := F) c)
def Φ₁ (c : Dev nD) : sProp 𝕄 := iprop(zeros (F := F) c ∗ restPts m c ∗ scrAny (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => wostg m ρ c
    | ⟨3, _⟩ => acc (a₀ m ρ) 3 c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

omit [FloatOps F] [Named F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

section Body

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt () t₀.succ ∗ stg c cc0_stg0_0 (xstg m ρ c) ∗ stg c cc0_stg1_0 (wqstg m ρ c)
    ∗ stg c cc0_stg2_0 (wostg m ρ c) ∗ stg c cc0_stg3_0 (acc (a₀ m ρ) 3 c))

set_option maxHeartbeats 800000 in
theorem sound_body (c : Dev nD) (Kt : PUnit → sProp 𝕄) :
    iprop(bodyPre m ρ c ∗ (bodyPost m ρ c -∗ Kt ⟨⟩)) ⊢ WP c (cc0_body (F := F) xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9) Kt := by
  unfold bodyPre Φ₀ start
  iintro ⟨⟨⟨⟨⟨%K, #HR, Hlin⟩, #Hlev, Hcr, Hrest⟩, Hscr⟩, Ho, ⟨%d0, %g0, %hg0, Hx⟩, ⟨%d1, %g1, %hg1, Hq⟩, ⟨%d2, %g2, %hg2, Hw⟩, ⟨%d3, %g3, %hg3, Hout⟩⟩, Hk⟩
  have hx : g0 = xstg m ρ c := by rw [hg0]; unfold Dat.before; rw [if_pos (fetch_0 t₀)]; rfl
  subst hx
  have hq : g1 = wqstg m ρ c := by rw [hg1]; unfold Dat.before; rw [if_pos (fetch_1 t₀)]; rfl
  subst hq
  have hw : g2 = wostg m ρ c := by rw [hg2]; unfold Dat.before; rw [if_pos (fetch_2 t₀)]; rfl
  subst hw
  unfold Dat.owesAt Pipeline.owesWithin
  icases Ho with ⟨%W, %hW, HO⟩
  iapply (body_run m (a₀ m ρ) K c (xstg m ρ c) (wqstg m ρ c) (wostg m ρ c) rfl Kt)
  isplitr; · iexact HR
  isplitr; · iexact Hlev
  isplitl [HO]; · (unfold owesX; iexists W; iexact HO)
  isplitl [Hlin]; · iexact Hlin
  isplitl [Hcr]; · iexact Hcr
  isplitl [Hrest]; · iexact Hrest
  isplitl [Hscr]; · iexact Hscr
  isplitl [Hx]; · (unfold xPt; iexact Hx)
  isplitl [Hq]; · (unfold wqPt; iexact Hq)
  isplitl [Hw]; · (unfold woPt; iexact Hw)
  isplitl [Hout]
  · iexists g3; rw [oPts_eq]; iexact Hout
  unfold owesX
  iintro ⟨⟨%W', HO⟩, Hz, Hrest, Hscr, Hx, Hq, Hw, Hout⟩
  iapply Hk
  unfold bodyPost Φ₁ Dat.owesAt Pipeline.owesWithin
  isplitl [Hz Hrest Hscr]
  · isplitl [Hz]; · iexact Hz
    isplitl [Hrest] <;> iassumption
  isplitl [HO]
  · iexists W'
    isplitr; · ipureintro; exact fun _ _ => Or.inl trivial
    iexact HO
  isplitl [Hx]
  · iexists _; isplitr; · (ipureintro; rfl)
    unfold xPt; iexact Hx
  isplitl [Hq]
  · iexists _; isplitr; · (ipureintro; rfl)
    unfold wqPt; iexact Hq
  isplitl [Hw]
  · iexists _; isplitr; · (ipureintro; rfl)
    unfold woPt; iexact Hw
  iexists _; isplitr; · (ipureintro; rfl)
  ihave Hout := (Entails.of_eq (oPts_eq c (acc (a₀ m ρ) 3 c))) $$ Hout
  iexact Hout

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ WP c (cc0_body (F := F) xM (Memref.isWhole_whole _) wqM (Memref.isWhole_whole _) k0M (Memref.isWhole_whole _) v0M (Memref.isWhole_whole _) woM (Memref.isWhole_whole _) oM (Memref.isWhole_whole _) kM (Memref.isWhole_whole _) vM (Memref.isWhole_whole _) qM (Memref.isWhole_whole _) ctxM (Memref.isWhole_whole _) cmM (Memref.isWhole_whole _) cc0_scratch5 cc0_scratch6 cc0_scratch7 cc0_scratch8 cc0_scratch9) (fun _ => bodyPost m ρ c)
  iintro H
  iapply (sound_body m ρ c fun _ => bodyPost m ρ c)
  isplitl [H]; · iexact H
  iintro H; iexact H

end Body

/-! ## The launch -/

theorem ownSemFacts : Pipeline.OwnSemFacts cfg0.spec osem := by decide

theorem share_eq (c : Dev nD) (w : Fin cfg0.W) : (dats m ρ 0 c).share w = fullShare := by unfold Dat.share; split <;> rfl

def ringCells : Finset (GSem nD τ sig) := Finset.univ.map ⟨kcell, kcell_injective⟩

/-- A right to pay: at a device's barrier one for each device, at each other semaphore one. -/
def tokOf (x : CK × Dev nD) : GSem nD τ sig × ℕ × Dev nD := (kcell x.1, 0, x.2)
theorem tokOf_injective : Function.Injective tokOf := by
  rintro ⟨a, d⟩ ⟨a', d'⟩ h
  have h1 : a = a' := kcell_injective (congrArg Prod.fst h)
  have h2 : d = d' := congrArg (fun y => y.2.2) h
  rw [h1, h2]
def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-- What the launch deals device `c`. -/
def G (c : Dev nD) : sProp 𝕄 :=
  iprop((bigSep Finset.univ fun k : Key => roundState ER (rd m (a₀ m ρ)) (kcell (c, k)) 0)
    ∗ (bigSep Finset.univ fun k : Key => iprop(atPos ER (kcell (c, k)) 0 ∅ 0 ∗ reached ER (kcell (c, k)) 0)) ∗ toks (F := F) c)

/-- What the devices make of it together. -/
def G' (c : Dev nD) : sProp 𝕄 := iprop(∃ K, records m (a₀ m ρ) K ∗ linear (F := F) c)

omit [FloatOps F] [Named F] in
/-- Of a device's rights, those that are used. -/
theorem toks_intro (c : Dev nD) : (iprop((bigSep Finset.univ fun d : Dev nD => dutyTok ER (kcell (c, none)) 0 d)
      ∗ okS fun k : OKey => bigSep Finset.univ fun d : Dev nD => dutyTok ER (kcell (c, some k)) 0 d) : sProp 𝕄) ⊢ toks (F := F) c := by
  have h : (okS fun k : OKey => bigSep Finset.univ fun d : Dev nD => (dutyTok ER (kcell (c, some k)) 0 d : sProp 𝕄)) ⊢ okS fun k : OKey => tok (F := F) c k := by
    rw [← bigSep_okey, ← bigSep_okey]
    exact bigSep_mono fun k _ => bigSep_elim (Finset.mem_univ dev0)
  unfold toks
  iintro ⟨H0, H⟩
  isplitl [H0]; · iexact H0
  iapply h; iexact H

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Key => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks (F := F) c := by
    unfold ringToks; rw [bigSep_map, bigSep_univ_prod, bigSep_univ_prod]
    refine bigSep_mono fun c _ => ?_
    rw [bigSep_key]
    exact toks_intro c
  iintro HX
  imod (Rounds.fund ER (rd m (a₀ m ρ)) ringCells ringToks) $$ HX with ⟨Hst, Hr, Hat, Htok⟩
  imodintro
  ihave Hst' := (Entails.of_eq (hX fun g => roundState ER (rd m (a₀ m ρ)) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] [Named F] in
theorem unscopedSems0_eq (c : Dev nD) : (unscopedSems0 c : sProp 𝕄) = semVal (kcell (c, none)) 0 := by
  unfold unscopedSems0; rw [bigSep_eq_bigSepL_of_eq [SemLoc.reg barS] (by decide) (by decide)]; rfl

omit [FloatOps F] [Named F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (kcell (c, k)) 0 : sProp 𝕄) := by
  rw [bigSep_key, unscopedSems0_eq]
  unfold Pipeline.ownSems0
  rw [bigSep_okey]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Key => iprop(∃ κ : ℕ, cellInv ER (rd m (a₀ m ρ)) κ (kcell (c, k))))
          ∗ (bigSep Finset.univ fun k : Key => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Key => semVal (kcell (c, k)) 0) ∗ bigSep Finset.univ fun k : Key => roundState ER (rd m (a₀ m ρ)) (kcell (c, k)) 0)
      ⊢ (|={Set.univ}=> bigSep Finset.univ fun k : Key => iprop(∃ κ : ℕ, cellInv ER (rd m (a₀ m ρ)) κ (kcell (c, k))) : sProp 𝕄) from by
        rw [← bigSep_sep']
        exact (bigSep_mono fun k _ => (Rounds.body_intro ER (rd m (a₀ m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's rounds and rights, as the body takes them. -/
theorem linear_intro (c : Dev nD) : iprop((bigSep Finset.univ fun k : Key => (atPos ER (kcell (c, k)) 0 ∅ 0 : sProp 𝕄)) ∗ payToks (F := F) c) ⊢ linear (F := F) c := by
  rw [bigSep_key]
  unfold okS payToks linear kvPos ringPos
  iintro ⟨⟨H0, H1, H2, H3, H4, H5⟩, T0, T1, T2⟩
  isplitl [H0]; · iexact H0
  isplitl [H1 H2 H3]
  · isplitl [H1]; · iexact H1
    isplitl [H2] <;> iassumption
  isplitl [H4 H5]
  · isplitl [H4] <;> iassumption
  isplitl [T0]; · iexact T0
  isplitl [T1] <;> iassumption

theorem regroup :
    (bigSep Finset.univ fun c : Dev nD => iprop((bigSep Finset.univ fun k : Key => iprop(∃ κ : ℕ, cellInv ER (rd m (a₀ m ρ)) κ (kcell (c, k))))
          ∗ (bigSep Finset.univ fun k : Key => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun ck : CK => iprop(∃ κ : ℕ, cellInv ER (rd m (a₀ m ρ)) κ (kcell ck))),
    bigSep_congr (s := Finset.univ) (fun (c : Dev nD) _ => bigSep_sep' Finset.univ (fun k : Key => (atPos ER (kcell (c, k)) 0 ∅ 0 : sProp 𝕄)) (fun k => reached ER (kcell (c, k)) 0)),
    bigSep_sep', ← bigSep_univ_prod (fun ck : CK => (reached ER (kcell ck) 0 : sProp 𝕄))]
  iintro ⟨HI, ⟨Hat, #HR⟩, Htok⟩
  ihave HK := (bigSep_exists_pi Finset.univ (fun (ck : CK) (κ : ℕ) => (cellInv ER (rd m (a₀ m ρ)) κ (kcell ck) : sProp 𝕄))) $$ HI
  icases HK with ⟨%K, #HI⟩
  ihave Htk := (toks_around (F := F)) $$ Htok
  iapply (bigSep_with_persistent (R := records m (a₀ m ρ) K) fun c _ => (show iprop(records m (a₀ m ρ) K ∗ linear (F := F) c) ⊢ G' m ρ c from by
    unfold G'; iintro H; iexists K; iexact H))
  isplitr
  · unfold records; isplitl; · iexact HI
    iexact HR
  · iapply ((Entails.of_eq (bigSep_sep' Finset.univ (fun c : Dev nD => bigSep Finset.univ fun k : Key => (atPos ER (kcell (c, k)) 0 ∅ 0 : sProp 𝕄)) payToks).symm).trans
      (bigSep_mono fun c _ => linear_intro (F := F) c))
    isplitl [Hat]; · iexact Hat
    iexact Htk

/-- The devices' semaphores, all at once, become the protocol's records. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hrest, Hlev, Hcr, -, HG⟩
  ihave Hc := (creds_intro (F := F) c) $$ Hcr
  imodintro
  unfold start G'
  isplitl
  · isplitl [HG]; · iexact HG
    isplitl [Hlev]; · iexact Hlev
    isplitl [Hc]; · iexact Hc
    unfold restPts
    iexact Hrest
  · iempintro

theorem scr_intro (c : Dev nD) : (Pipeline.scopedRest cfg0.spec c : sProp 𝕄) ⊢ scrAny (F := F) c := by
  rw [scopedRest0_eq]
  unfold scrAny kvAny qPt ctxPt cmWhole
  iintro ⟨⟨%f0, H0⟩, ⟨%f1, H1⟩, H2, H3, H4⟩
  isplitl [H0 H1]
  · isplitl [H0]
    · iexists f0; rw [kPts_eq]; iexact H0
    · iexists f1; rw [vPts_eq]; iexact H1
  isplitl [H2]; · iexact H2
  isplitl [H3]; · iexact H3
  iexact H4

theorem scr_elim (c : Dev nD) : scrAny (F := F) c ⊢ (Pipeline.scopedRest cfg0.spec c : sProp 𝕄) := by
  rw [scopedRest0_eq]
  unfold scrAny kvAny qPt ctxPt cmWhole
  iintro ⟨⟨⟨%f0, H0⟩, ⟨%f1, H1⟩⟩, H2, H3, H4⟩
  ihave H0 := (Entails.of_eq (kPts_eq c f0)) $$ H0
  ihave H1 := (Entails.of_eq (vPts_eq c f1)) $$ H1
  isplitl [H0]; · iexists f0; iexact H0
  isplitl [H1]; · iexists f1; iexact H1
  isplitl [H2]; · iexact H2
  isplitl [H3]; · iexact H3
  iexact H4

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scr_intro (F := F) c); iexact Hr

/-- The counters at zero, as the launch takes them back. -/
theorem zeros_elim (c : Dev nD) : zeros (F := F) c ⊢ iprop(unscopedSems0 c ∗ (Pipeline.ownSems0 osem c : sProp 𝕄)) := by
  rw [unscopedSems0_eq]
  unfold Pipeline.ownSems0
  rw [bigSep_okey]
  unfold zeros okS kvZer ringZer3 ringZer
  iintro ⟨H0, ⟨H1, H2, H3⟩, ⟨S0, R0⟩, ⟨S1, R1⟩, ⟨S2, R2⟩⟩
  isplitl [H0]; · iexact H0
  isplitl [H1]; · iexact H1
  isplitl [H2]; · iexact H2
  isplitl [H3]; · iexact H3
  isplitl [S0 S1 S2]
  · isplitl [S0]; · iexact S0
    isplitl [S1]; · iexact S1
    iexact S2
  isplitl [R0]; · iexact R0
  isplitl [R1]; · iexact R1
  iexact R2

theorem phi1_exit (c : Dev nD) :
    (dats m ρ 0 c).Φ (Fin.last cfg0.N) ⊢ iprop((unscopedSems0 c ∗ restPts m c) ∗ Pipeline.ownSems0 osem c ∗ Pipeline.scopedRest cfg0.spec c) := by
  rw [show (dats m ρ 0 c).Φ (Fin.last cfg0.N) = Φ₁ m c from rfl]
  unfold Φ₁
  iintro ⟨Hz, Hr, Hs⟩
  ihave Hz := (zeros_elim (F := F) c) $$ Hz
  icases Hz with ⟨Hu, Ho⟩
  isplitl [Hu Hr]
  · isplitl [Hu] <;> iassumption
  isplitl [Ho]; · iexact Ho
  iapply (scr_elim (F := F) c); iexact Hs

/-- The pipeline's own transfers are counted by semaphores below all others. -/
theorem lev_stage (q : DmaSem sig) (h : q.val < 4) : lev (.dma q) = 0 := by
  have hn : keyOf (.dma q) = none := by
    unfold keyOf
    refine dif_neg ?_
    rintro ⟨k, hk⟩
    rcases k with _ | k
    · cases hk
    · have h' : (⟨oidx k, oidx_lt k⟩ : DmaSem sig) = q := by injection hk
      have h2 : oidx k = q.val := congrArg Fin.val h'
      rcases k with ⟨i, j⟩ | j | r | r | j <;> dsimp only [oidx] at h2 <;> omega
  unfold lev; rw [hn]

theorem lvK_pos (k : Key) : 0 < lvK k := by
  rcases k with _ | k
  · exact Nat.one_pos
  · cases k <;> dsimp only [lvK] <;> omega

theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · exact mayWait_below c (.dma q) (dues c) fun x _ => by rw [lev_stage q hq]; exact lvK_pos _
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

/-- The final state of device `c`, of the buffers no window stages and of its regular semaphores. -/
def endQ (c : Dev nD) (s : MemSt nD τ sig (Elt F)) : Prop :=
  (s.mem ((c : Thread nD τ).loc main_arg2) = m ((c : Thread nD τ).loc main_arg2)
    ∧ s.mem ((c : Thread nD τ).loc main_arg3) = m ((c : Thread nD τ).loc main_arg3))
  ∧ ∀ sm : SemLoc sig, sm.isScoped .tc = false → s.sem ((c.tc : Thread nD τ), sm) = 0

omit [FloatOps F] [Named F] in
theorem end_read (c : Dev nD) (s' : Phys nD τ sig (Elt F)) :
    iprop((unscopedSems0 c ∗ restPts m c) ∗ emp ∗ SI s') ⊢ (|={Set.univ}=> iprop(⌜endQ m c s'.mem⌝ ∗ SI s') : sProp 𝕄) := by
  unfold restPts
  iintro ⟨⟨Hu, Hk, Hv⟩, -, HSI⟩
  icombine HSI Hk gives %hk
  icombine HSI Hv gives %hv
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ hk, Buf.eq_of_forall_mem_univ hv⟩, hs⟩
  · iexact HSI

/-- The final contents: every window's array, and the two operands no window stages. -/
def EndC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2)
    ∧ r.2.mem ((c : Thread nD τ).loc main_arg3) = m ((c : Thread nD τ).loc main_arg3)

set_option maxRecDepth 8000 in
/-- For any float values, from any memory with zero counters, every weakly fair execution of the eight devices
    terminates, each device's arrays end at the stated contents, and every counter ends at zero. -/
theorem run_main : θ_run defs (onTc (τ := τ) (main (F := F))) (s₀ m ρ) (fun r => EndC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => iprop(unscopedSems0 c ∗ restPts m c)) (Z := fun _ => iprop(emp))
    (hX := start_intro m ρ) (hin := phi0_intro m ρ) (hout := phi1_exit m ρ)
    (QY := endQ m)
    (hY := end_read m)
    (hQ := fun _ h hs => ⟨fun c => ⟨fun w => (h c).1 w, (h c).2.2.1⟩, sem_eq_zero hs fun c => (h c).2.2.2⟩)

end Cert.KProof

end
-- ==== Proof.Value.lean ====
/-
# The run with its contents: what the result array holds
-/
module

public import proofs.«01_k».proof.Proof.Launch

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The whole windows -/

theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

theorem wqstg_eq (c : Dev nD) : wqstg m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

theorem wostg_eq (c : Dev nD) : wostg m ρ c = m ((c : Thread nD τ).loc main_arg4) := by
  have hz : (fun a => (win0_2.index (0 : Fin 1)) a * main_arg4.ty.shape.size a) = fun _ => 0 :=
    funext fun a => by fin_cases a <;> decide
  exact Memref.read_access_unit_zero (Elt F) main_arg4 hz (fun a => by fin_cases a <;> decide) _

/-- Device `c`'s partial output, of the operands in its memory. -/
def part (c : Dev nD) : OutC F :=
  outB (qB (m ((c : Thread nD τ).loc main_arg0)) (m ((c : Thread nD τ).loc main_arg1))) (kSlice m c) (vSlice m c) (m ((c : Thread nD τ).loc main_arg4))

theorem a₀_eq : a₀ m ρ = part m := by
  funext c
  unfold a₀ part
  rw [xstg_eq, wqstg_eq, wostg_eq]

/-- The result array of device `c`: the partial outputs, summed over the three exchanges. -/
theorem finalA_out (c : Dev nD) : finalA m ρ c (3 : Fin 4) = acc (part m) 3 c := by
  have ho : (win0_3.blk (0 : Fin 1)).view.read (Elt F) (finalA m ρ c (3 : Fin 4)) = acc (a₀ m ρ) 3 c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  have hz : (fun a => (win0_3.index (0 : Fin 1)) a * main_v1.ty.shape.size a) = fun _ => 0 :=
    funext fun a => by fin_cases a <;> decide
  have hr := fun f => Memref.read_access_unit_zero (Elt F) main_v1 hz (fun a => by fin_cases a <;> decide) f
  rw [hr, a₀_eq] at ho
  exact ho

/-- The arguments of device `c` in `r` are those of `m`. -/
def ArgsKept (r : PUnit × MemSt nD τ sig (Elt F)) : Prop :=
  ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

/-- From any memory with zero counters every weakly fair execution terminates; each device's result ends as the
    partial outputs summed over the three exchanges, its arguments are unchanged, and every counter is zero. -/
theorem run_value : θ_run defs (onTc (τ := τ) (main (F := F))) ⟨m, fun _ => 0, ρ⟩ (fun r =>
    (∀ c : Dev nD, r.2.mem ((c.tc : Thread nD τ).loc main_v1) = acc (part m) 3 c) ∧ ArgsKept m r ∧ r.2.sem = fun _ => 0) := by
  refine (θ_run defs _ _).mono (fun r h => ⟨fun c => ((h.1 c).1 (3 : Fin 4)).trans (finalA_out m ρ c), fun c => ⟨?_, ?_, (h.1 c).2.1, (h.1 c).2.2, ?_⟩, h.2⟩) (run_main m ρ)
  · exact ((h.1 c).1 (0 : Fin 4)).trans ((dats m ρ 0 c).arrAt_in (0 : Fin 4) rfl _)
  · exact ((h.1 c).1 (1 : Fin 4)).trans ((dats m ρ 0 c).arrAt_in (1 : Fin 4) rfl _)
  · exact ((h.1 c).1 (2 : Fin 4)).trans ((dats m ρ 0 c).arrAt_in (2 : Fin 4) rfl _)

/-- The same run, its contents dropped. -/
theorem run_frame : θ_run defs (onTc (τ := τ) (main (F := F))) ⟨m, fun _ => 0, ρ⟩ (fun r => ArgsKept m r ∧ r.2.sem = fun _ => 0) :=
  (θ_run defs _ _).mono (fun _ h => h.2) (run_value m ρ)

end Cert.KProof

end
-- ==== Proof.FrameBits.lean ====
/-
# The program as printed, on bit patterns
-/
module

public import proofs.«01_k».proof.Proof.Value
public import proofs.«01_k».proof.Proof.Gen.Kernel
public import proofs.«01_k».proof.Kernel
public import Idealize.ShloMosaic.PureOps.BitExact

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- On bit patterns a named constant is the pattern itself, so that the program as printed is the same program. -/
@[reducible] def namedBits : Named Bits := ⟨fun _ _ _ b => FloatOps.ofBits _ b⟩

attribute [local instance] namedBits
attribute [local instance] Cert.Kernel.Gen.facts

/-- The two programs' tables of bodies are the same code on bit patterns. -/
theorem defs₀_eq : Cert.Kernel.defs₀ (F := Bits) = Cert.KernelIdeal.defs₀ (F := Bits) := by
  refine congrArg Defs.onTc (funext fun l => funext fun a => ?_)
  obtain ⟨l, hl⟩ := l
  obtain rfl : l = 0 := by omega
  obtain ⟨t, s⟩ := a
  rfl

theorem defs_eq : Cert.Kernel.defs (F := Bits) = Cert.KernelIdeal.defs (F := Bits) :=
  congrArg (Pipeline.defs (Cert.KernelIdeal.pcfgs (F := Bits))) defs₀_eq

/-- The program as printed runs on bit patterns, keeps its arguments and ends with every counter at zero. -/
theorem kernel_frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩
      (fun r => ArgsKept (F := Bits) m r ∧ r.2.sem = fun _ => 0) := by
  rw [defs_eq]
  exact run_frame (F := Bits) m g

end Cert.KProof

end
-- ==== Proof.Frames.lean ====
/-
# The frame claims and the claim on the named constant
-/
module

public import proofs.«01_k».proof.Defs
public import proofs.«01_k».proof.Proof.FrameBits
public import proofs.«01_k».proof.Proof.Gen.ReferenceIdeal
public import proofs.«01_k».proof.Proof.Gen.ReferenceIdeal.Run

@[expose] public section

noncomputable section

namespace Cert.Frames

open Idealize.ShloMosaic Idealize.SL.Sem

/-- The kernel as printed runs, keeps its arguments and ends quiescent. -/
theorem kernel : Cert.quiescent_Kernel (hKernel := Cert.Kernel.Gen.facts) := fun m g _ => KProof.kernel_frame m g

/-- So does the idealized kernel. -/
theorem kernelIdeal : Cert.quiescent_KernelIdeal (hKernelIdeal := Cert.KernelIdeal.Gen.facts) := fun m g _ => KProof.run_frame m g

/-- The reference has no semaphore, so that its counters are all zero. -/
theorem ref_sem (s : MemSt Cert.ReferenceIdeal.nD Cert.ReferenceIdeal.τ Cert.ReferenceIdeal.sig (Elt Ideal)) : s.sem = fun _ => 0 :=
  funext fun g => by
    obtain ⟨t, s⟩ := g
    rcases s with q | q <;> exact q.elim0

/-- The reference runs, keeps its arguments and ends quiescent. -/
theorem referenceIdeal : Cert.quiescent_ReferenceIdeal (hReferenceIdeal := Cert.ReferenceIdeal.Gen.facts) := fun m g _ =>
  (θ_run _ _ _).mono (fun _ h => ⟨fun c => (h c).2, ref_sem _⟩) (Cert.ReferenceIdeal.Value.run m g)

/-- The literal −1e9 of the mask is read as −∞. -/
theorem preserves : Cert.preserves_Kernel_KernelIdeal :=
  IdealRules.named_const.statement Cert.KernelIdeal.κ "mask" .f32 0xCE6E6B28#32 ⊥ rfl

end Cert.Frames

end
-- ==== Proof.Softmax.lean ====
/-
# Softmax attention over extended reals: masked positions beyond a prefix do not count
-/
module

public import Idealize.ShloMosaic.PureOps.Ideal

@[expose] public section

noncomputable section

namespace Cert.Softmax

open Idealize.ShloMosaic
open scoped BigOperators

/-! ## Real extended reals -/

/-- An extended real that is a real number. -/
def IsReal (x : EReal) : Prop := ∃ r : ℝ, x = (r : EReal)

theorem IsReal.mul {x y : EReal} : IsReal x → IsReal y → IsReal (x * y)
  | ⟨r, hr⟩, ⟨s, hs⟩ => ⟨r * s, by rw [hr, hs, EReal.coe_mul]⟩

theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    obtain ⟨r, hr⟩ := h a (Finset.mem_insert_self a s)
    obtain ⟨t, ht⟩ := ih fun i hi => h i (Finset.mem_insert_of_mem hi)
    exact ⟨r + t, by rw [Finset.sum_insert ha, hr, ht, EReal.coe_add]⟩

theorem isReal_of_lt {x : EReal} (h : max x (-x) < ⊤) : IsReal x := by
  induction x using EReal.rec with
  | bot => simp at h
  | coe r => exact ⟨r, rfl⟩
  | top => simp at h

theorem IsReal.ne_top {x : EReal} : IsReal x → x ≠ ⊤
  | ⟨_, hr⟩ => hr ▸ EReal.coe_ne_top _

/-! ## Attention of one query row -/

/-- The largest score. -/
def top {n : ℕ} (t : Fin n → EReal) : EReal := Finset.univ.fold max ⊥ t

/-- The softmax of the scores `t`, times the values `v`. -/
def attn {n : ℕ} (t v : Fin n → EReal) : EReal :=
  ∑ j, Ideal.div (Ideal.exp (t j - top t)) (∑ k, Ideal.exp (t k - top t)) * v j

theorem exp_nonneg (x : EReal) : 0 ≤ Ideal.exp x := by
  induction x using EReal.rec with
  | bot => exact le_refl _
  | coe r => exact EReal.coe_nonneg.mpr (Real.exp_pos r).le
  | top => exact le_top

theorem exp_bot : Ideal.exp ⊥ = 0 := rfl

theorem zero_div_pos {y : EReal} (h : 0 < y) : Ideal.div 0 y = 0 := by
  unfold Ideal.div; rw [if_neg h.ne', zero_mul]

section Append

variable {n k : ℕ} (t v : Fin (n + k) → EReal)

/-- Scores of `⊥` do not change the largest one. -/
theorem top_append (h : ∀ j : Fin k, t (Fin.natAdd n j) = ⊥) : top t = top (fun j => t (Fin.castAdd k j)) := by
  apply le_antisymm
  · refine Finset.fold_max_le _ |>.mpr ⟨bot_le, fun x _ => ?_⟩
    induction x using Fin.addCases with
    | left j => exact Finset.le_fold_max _ |>.mpr (Or.inr ⟨j, Finset.mem_univ _, le_refl _⟩)
    | right j => rw [h j]; exact bot_le
  · refine Finset.fold_max_le _ |>.mpr ⟨bot_le, fun x _ => ?_⟩
    exact Finset.le_fold_max _ |>.mpr (Or.inr ⟨Fin.castAdd k x, Finset.mem_univ _, le_refl _⟩)

/-- The largest of scores below `⊤`, one of them real, is real. -/
theorem top_isReal {m : ℕ} (t : Fin m → EReal) (ht : ∀ j, t j ≠ ⊤) (j₀ : Fin m) (h₀ : IsReal (t j₀)) : IsReal (top t) := by
  have h1 : top t < ⊤ := Finset.fold_max_lt _ |>.mpr ⟨bot_lt_top, fun j _ => lt_top_iff_ne_top.mpr (ht j)⟩
  have h2 : t j₀ ≤ top t := Finset.le_fold_max _ |>.mpr (Or.inr ⟨j₀, Finset.mem_univ _, le_refl _⟩)
  obtain ⟨r, hr⟩ := h₀
  have h3 : top t ≠ ⊥ := fun e => by rw [e, hr] at h2; exact absurd (le_bot_iff.mp h2) (EReal.coe_ne_bot r)
  exact ⟨(top t).toReal, (EReal.coe_toReal h1.ne h3).symm⟩

/-- The normalizer is positive. -/
theorem sum_exp_pos {m : ℕ} (t : Fin m → EReal) (M : EReal) (hM : IsReal M) (j₀ : Fin m) (h₀ : IsReal (t j₀)) :
    0 < ∑ j, Ideal.exp (t j - M) := by
  refine lt_of_lt_of_le ?_ (Finset.single_le_sum (f := fun j => Ideal.exp (t j - M)) (fun j _ => exp_nonneg _) (Finset.mem_univ j₀))
  obtain ⟨r, hr⟩ := h₀
  obtain ⟨s, hs⟩ := hM
  show 0 < Ideal.exp (t j₀ - M)
  rw [hr, hs, ← EReal.coe_sub]
  exact EReal.coe_pos.mpr (Real.exp_pos _)

/-- Attention over `n + k` positions whose last `k` scores are `⊥` is attention over the first `n`. -/
theorem attn_append (h : ∀ j : Fin k, t (Fin.natAdd n j) = ⊥) (ht : ∀ j, t (Fin.castAdd k j) ≠ ⊤)
    (j₀ : Fin n) (h₀ : IsReal (t (Fin.castAdd k j₀))) :
    attn t v = attn (fun j => t (Fin.castAdd k j)) (fun j => v (Fin.castAdd k j)) := by
  have hM : IsReal (top fun j => t (Fin.castAdd k j)) := top_isReal _ ht j₀ h₀
  have hS := sum_exp_pos (fun j => t (Fin.castAdd k j)) _ hM j₀ h₀
  obtain ⟨m, hm⟩ := hM
  unfold attn
  rw [top_append t h, Fin.sum_univ_add, Fin.sum_univ_add (f := fun j => Ideal.exp _)]
  have z : ∀ j : Fin k, Ideal.exp (t (Fin.natAdd n j) - top fun j => t (Fin.castAdd k j)) = 0 := fun j => by
    rw [h j, hm, EReal.bot_sub, exp_bot]
  simp only [z, Finset.sum_const_zero, add_zero, zero_div_pos hS, zero_mul]

end Append

end Cert.Softmax

end
-- ==== Proof.Mask.lean ====
/-
# The block-causal mask of the kernel and of the reference
-/
module

public import proofs.«01_k».proof.Proof.Content
public import proofs.«01_k».proof.Proof.Gen.ReferenceIdeal.Read
public import Idealize.ShloMosaic.Lib.Pointwise

@[expose] public section

noncomputable section

namespace Cert.Mask

open Idealize.ShloMosaic
open scoped BigOperators

/-- Block `a / 64` is at most block `b / 64`, as a bit. -/
def bit (a b : ℕ) : BitVec 1 := if a / 64 ≤ b / 64 then 1#1 else 0#1

/-- The kernel's floor division of a position by 64. -/
theorem kernel_floor : ∀ a : Fin 512,
    Scalar.select
      (IntOp.andi
        (IntOp.cmpi CmpIPredicate.ne
          (IntOp.subi (BitVec.setWidth 32 (IntOp.cmpi CmpIPredicate.sgt (BitVec.ofNat 32 a.val) 0#32))
            (BitVec.setWidth 32 (IntOp.cmpi CmpIPredicate.slt (BitVec.ofNat 32 a.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 a.val) 64#32) 0#32))
      (IntOp.subi (IntOp.divsi ArithUnit.vector (BitVec.ofNat 32 a.val) 64#32) 1#32)
      (IntOp.divsi ArithUnit.vector (BitVec.ofNat 32 a.val) 64#32) = BitVec.ofNat 32 (a.val / 64) := by
  decide +kernel

/-- The reference's floor division of a position by 64. -/
theorem ref_floor : ∀ a : Fin 4096,
    Scalar.select
      (IntOp.andi
        (IntOp.cmpi CmpIPredicate.ne
          (if BitVec.ofNat 32 a.val = 0 then (0 : BitVec 32) else if (BitVec.ofNat 32 a.val).msb = true then -1 else 1)
          (if 64#32 = 0 then (0 : BitVec 32) else if (64#32).msb = true then -1 else 1))
        (IntOp.cmpi CmpIPredicate.ne (IntOp.remsi ArithUnit.host (BitVec.ofNat 32 a.val) 64#32) 0#32))
      (IntOp.subi (IntOp.divsi ArithUnit.host (BitVec.ofNat 32 a.val) 64#32) 1#32)
      (IntOp.divsi ArithUnit.host (BitVec.ofNat 32 a.val) 64#32) = BitVec.ofNat 32 (a.val / 64) := by
  decide +kernel

theorem sle_words : ∀ a b : Fin 64,
    IntOp.cmpi CmpIPredicate.sle (BitVec.ofNat 32 a.val) (BitVec.ofNat 32 b.val) = if a ≤ b then 1#1 else 0#1 := by
  decide +kernel

/-- The signed comparison of two block numbers. -/
theorem sle_blocks (a b : ℕ) (ha : a < 4096) (hb : b < 4096) :
    IntOp.cmpi CmpIPredicate.sle (BitVec.ofNat 32 (a / 64)) (BitVec.ofNat 32 (b / 64)) = bit a b :=
  sle_words ⟨a / 64, by omega⟩ ⟨b / 64, by omega⟩

theorem ori_one : ∀ z : BitVec 1, IntOp.ori 1#1 z = 1#1 := by decide

section Kernel
open Cert.KernelIdeal Cert.KernelIdeal.Gen

/-- The kernel's mask at row `i` and column `j`. -/
theorem kernel_mask (i j : Fin 512) : k0_pay7 k0_pay4 k0_pay5 k0_pay6 (ix2 i j) = bit j i := by
  pointwise [k0_pay7, k0_pay4, k0_pay5, k0_pay6]
  rw [kernel_floor i, kernel_floor j]
  exact sle_blocks _ _ (by omega) (by omega)

end Kernel

section Reference
open Cert.ReferenceIdeal Cert.ReferenceIdeal.Gen Cert.ReferenceIdeal.Read

theorem ref_rows (i : Fin 512) : val_main_v3 (F := Ideal) (ix1 i) = BitVec.ofNat 32 (i.val / 64) := by
  pointwise [val_main_v3, val_main_call0_v2, val_main_call0_v11, val_main_call0_v13, val_main_call0_v6, val_main_call0_v10,
    val_main_call0_v12, val_main_call0_v3, val_main_call0_v5, val_main_call0_v4, val_main_call0_v8, val_main_call0_v9,
    val_main_v2, val_main_c, val_main_call0_v0, val_main_call0_v1, val_main_call0_c, val_main_call0_c_0, val_main_call0_v7]
  exact ref_floor ⟨i.val, by omega⟩

theorem ref_cols (i : Fin 4096) : val_main_v6 (F := Ideal) (ix1 i) = BitVec.ofNat 32 (i.val / 64) := by
  pointwise [val_main_v6, val_main_call1_v2, val_main_call1_v11, val_main_call1_v13, val_main_call1_v6, val_main_call1_v10,
    val_main_call1_v12, val_main_call1_v3, val_main_call1_v5, val_main_call1_v4, val_main_call1_v8, val_main_call1_v9,
    val_main_v5, val_main_c_0, val_main_call1_v0, val_main_call1_v1, val_main_call1_c, val_main_call1_c_0, val_main_call1_v7]
  exact ref_floor i

/-- The reference's mask at row `i` and column `j`. -/
theorem ref_mask (i : Fin 512) (j : Fin 4096) : val_main_v10 (F := Ideal) (ix2 i j) = bit j i := by
  pointwise [val_main_v10, val_main_v9, val_main_v8, val_main_v7, val_main_v4]
  rw [ref_rows i, ref_cols j]
  exact sle_blocks _ _ j.isLt (by omega)

/-- Every row of the reference's mask lets a column through: the first. -/
theorem ref_keep (i : Fin 512) : val_main_v21 (F := Ideal) (ix1 i) = 1#1 := by
  pointwise [val_main_v21]
  rw [← Finset.insert_erase (Finset.mem_univ (0 : Fin 4096)), Finset.fold_insert (Finset.notMem_erase _ _), ref_mask]
  have h : bit (0 : Fin 4096).val i.val = 1#1 := if_pos (by simp)
  rw [h]
  exact ori_one _

end Reference

end Cert.Mask

end
-- ==== Proof.Row.lean ====
/-
# One query row of one head
-/
module

public import proofs.«01_k».proof.Proof.Softmax
public import proofs.«01_k».proof.Proof.Mask

@[expose] public section

noncomputable section

namespace Cert.Row

open Idealize.ShloMosaic Cert.Softmax
open scoped BigOperators

/-- The masked score of a query against the key at position `j`, for a query at position `i`. -/
def score (i : ℕ) (q k : Fin 64 → EReal) (j : ℕ) : EReal :=
  Scalar.select (Mask.bit j i) ((∑ d, q d * k d) * Ideal.ofBits .f32 0x3E000000#32) ⊥

/-- One entry of a head's context: attention of the query `q` at position `i` over `n` keys, on one column of the values. -/
def row {n : ℕ} (i : ℕ) (q : Fin 64 → EReal) (k : Fin n → Fin 64 → EReal) (v : Fin n → EReal) : EReal :=
  attn (fun j => score i q (k j) j.val) v

theorem eighth_isReal : IsReal (Ideal.ofBits .f32 0x3E000000#32) :=
  ⟨1 / 8, by simp [Ideal.ofBits, Ideal.ieee, -EReal.coe_mul]; norm_num⟩

theorem ninf : Ideal.ofBits .f32 0xFF800000#32 = ⊥ := by simp [Ideal.ofBits, Ideal.ieee]
theorem pinf : Ideal.ofBits .f32 0x7F800000#32 = ⊤ := by simp [Ideal.ofBits, Ideal.ieee]

/-- A query in the first 512 positions sees only keys in the first 512 positions: where those scores are real, the rest of the
    keys and values do not count. -/
theorem row_append {n : ℕ} (i : ℕ) (hi : i < 512) (q : Fin 64 → EReal) (k : Fin (512 + n) → Fin 64 → EReal)
    (v : Fin (512 + n) → EReal) (hq : ∀ d, IsReal (q d)) (hk : ∀ (j : Fin 512) (d : Fin 64), IsReal (k (Fin.castAdd n j) d)) :
    row i q k v = row i q (fun j : Fin 512 => k (Fin.castAdd n j)) (fun j : Fin 512 => v (Fin.castAdd n j)) := by
  have hr : ∀ j : Fin 512, IsReal ((∑ d, q d * k (Fin.castAdd n j) d) * Ideal.ofBits .f32 0x3E000000#32) := fun j =>
    (IsReal.sum _ _ fun d _ => (hq d).mul (hk j d)).mul eighth_isReal
  refine attn_append (n := 512) (k := n) _ v (fun j => ?_) (fun j => ?_) 0 ?_
  · have h : Mask.bit (Fin.natAdd 512 j).val i = 0#1 := if_neg (by rw [Fin.val_natAdd]; omega)
    show score i q _ (Fin.natAdd 512 j).val = ⊥
    unfold score; rw [h]; rfl
  · show score i q _ (Fin.castAdd n j).val ≠ ⊤
    unfold score Scalar.select
    split
    · exact (hr j).ne_top
    · exact bot_ne_top
  · have h : Mask.bit (Fin.castAdd n (0 : Fin 512)).val i = 1#1 := if_pos (by simp)
    show IsReal (score i q _ (Fin.castAdd n (0 : Fin 512)).val)
    unfold score; rw [h]; exact hr 0

end Cert.Row

end
-- ==== Proof.Finite.lean ====
/-
# What the precondition says
-/
module

public import proofs.«01_k».proof.Defs
public import proofs.«01_k».proof.Proof.Row
public import Idealize.ShloMosaic.Lib.ReduceAll

@[expose] public section

noncomputable section

namespace Cert.Finite

open Idealize.ShloMosaic Cert.Softmax

set_option backward.proofsInPublic true in
/-- The side conditions of the predicate, over the kernel's arrays and over the reference's. -/
theorem kernelFacts : Cert.Pre_scores_finite_KernelIdeal.Facts :=
  ⟨by decide, by decide, by decide, by decide, by decide, by decide, by decide⟩
set_option backward.proofsInPublic true in
theorem referenceFacts : Cert.Pre_scores_finite_ReferenceIdeal.Facts :=
  ⟨by decide, by decide, by decide, by decide, by decide, by decide, by decide⟩

/-- An element whose absolute value is below `+∞` is real. -/
theorem isReal_of_cmp {x : EReal} (h : Ideal.cmp .olt (max x (-x)) (Ideal.ofBits .f32 0x7F800000#32) = 1#1) : IsReal x := by
  rw [Row.pinf] at h
  refine isReal_of_lt ?_
  by_contra hn
  simp [Ideal.cmp, hn] at h

open Cert.Pre_scores_finite_KernelIdeal in
/-- Where the predicate holds, the input, the query weights and the keys are real. -/
theorem of_pre [hF : Cert.Pre_scores_finite_KernelIdeal.Facts] (a0 : FVec Ideal S2x512x768 .f32) (a1 : FVec Ideal S768x512 .f32)
    (a2 a3 : FVec Ideal S2x512x64x64 .f32) (a4 : FVec Ideal S512x768 .f32) (h : fn (F := Ideal) a0 a1 a2 a3 a4 = fun _ => 1#1) :
    (∀ i, IsReal (a0 i)) ∧ (∀ i, IsReal (a1 i)) ∧ ∀ i, IsReal (a2 i) := by
  have e := congrFun h (fun a => a.elim0)
  obtain ⟨e', e2⟩ := IntOp.andi_eq_one.1 e
  obtain ⟨e0, e1⟩ := IntOp.andi_eq_one.1 e'
  haveI : Subsingleton S_.Idx := ⟨fun a b => funext fun i => i.elim0⟩
  exact ⟨fun i => isReal_of_cmp (Host.reduce_andi_all _ _ _ _ _ e0 i), fun i => isReal_of_cmp (Host.reduce_andi_all _ _ _ _ _ e1 i),
    fun i => isReal_of_cmp (Host.reduce_andi_all _ _ _ _ _ e2 i)⟩

end Cert.Finite

end
-- ==== Proof.KernelRead.lean ====
/-
# A device's partial output, entry by entry
-/
module

public import proofs.«01_k».proof.Proof.Row
public import proofs.«01_k».proof.Proof.Value

@[expose] public section

noncomputable section

namespace Cert.KProof

open Cert.KernelIdeal Cert.KernelIdeal.Gen
open Idealize.ShloMosaic Cert.Row
open Idealize.ShloMosaic.TcCoe
open scoped BigOperators

/-! ## Loads -/

theorem xP_apply (f : OutC Ideal) (b : Fin 2) (i : Fin 512) (e : Fin 768) : xP f b (ix3 0 i e) = f (ix3 b i e) :=
  congrArg f (funext fun a => match a with
    | ⟨0, _⟩ => Fin.ext (by show b.val + 1 * 0 = b.val; omega)
    | ⟨1, _⟩ => Fin.ext (by show 0 + 1 * i.val = i.val; omega)
    | ⟨2, _⟩ => Fin.ext (by show 0 + 1 * e.val = e.val; omega))

theorem ctxP_apply (f : QC Ideal) (b : Fin 2) (i e : Fin 512) : ctxP f b (ix3 0 i e) = f (ix3 b i e) :=
  congrArg f (funext fun a => match a with
    | ⟨0, _⟩ => Fin.ext (by show b.val + 1 * 0 = b.val; omega)
    | ⟨1, _⟩ => Fin.ext (by show 0 + 1 * i.val = i.val; omega)
    | ⟨2, _⟩ => Fin.ext (by show 0 + 1 * e.val = e.val; omega))

theorem qP_apply (f : QC Ideal) (b : Fin 2) (h : Fin 8) (i : Fin 512) (d : Fin 64) :
    qP f b h (ix3 0 i d) = f (ix3 b i ⟨64 * h.val + d.val, by omega⟩) :=
  congrArg f (funext fun a => match a with
    | ⟨0, _⟩ => Fin.ext (by show b.val + 1 * 0 = b.val; omega)
    | ⟨1, _⟩ => Fin.ext (by show 0 + 1 * i.val = i.val; omega)
    | ⟨2, _⟩ => Fin.ext (by show 64 * h.val + 1 * d.val = 64 * h.val + d.val; omega))

theorem kP_apply (f : KvC Ideal) (b : Fin 2) (h : Fin 8) (j : Fin 512) (d : Fin 64) :
    kP f b h (ix4 0 j 0 d) = f (ix4 b j h d) :=
  congrArg f (funext fun a => match a with
    | ⟨0, _⟩ => Fin.ext (by show b.val + 1 * 0 = b.val; omega)
    | ⟨1, _⟩ => Fin.ext (by show 0 + 1 * j.val = j.val; omega)
    | ⟨2, _⟩ => Fin.ext (by show h.val + 1 * 0 = h.val; omega)
    | ⟨3, _⟩ => Fin.ext (by show 0 + 1 * d.val = d.val; omega))

theorem vP_apply (f : KvC Ideal) (b : Fin 2) (h : Fin 8) (j : Fin 512) (d : Fin 64) :
    vP f b h (ix4 0 j 0 d) = f (ix4 b j h d) :=
  congrArg f (funext fun a => match a with
    | ⟨0, _⟩ => Fin.ext (by show b.val + 1 * 0 = b.val; omega)
    | ⟨1, _⟩ => Fin.ext (by show 0 + 1 * j.val = j.val; omega)
    | ⟨2, _⟩ => Fin.ext (by show h.val + 1 * 0 = h.val; omega)
    | ⟨3, _⟩ => Fin.ext (by show 0 + 1 * d.val = d.val; omega))

theorem wqP_apply (f : WqC Ideal) (e : Fin 768) (n : Fin 512) : wqP f (ix2 e n) = f (ix2 e n) :=
  congrArg f (funext fun a => match a with
    | ⟨0, _⟩ => Fin.ext (by show 0 + 1 * e.val = e.val; omega)
    | ⟨1, _⟩ => Fin.ext (by show 0 + 1 * n.val = n.val; omega))

theorem woP_apply (f : WoC Ideal) (k : Fin 512) (n : Fin 768) : woP f (ix2 k n) = f (ix2 k n) :=
  congrArg f (funext fun a => match a with
    | ⟨0, _⟩ => Fin.ext (by show 0 + 1 * k.val = k.val; omega)
    | ⟨1, _⟩ => Fin.ext (by show 0 + 1 * n.val = n.val; omega))

/-- Device `d`'s slice of device 0's keys: its head `h` is head `8 d + h`. -/
theorem kSlice_apply (m : (ℓ : Loc nD τ sig) → Buf (Elt Ideal) ℓ) (d : Dev nD) (b : Fin 2) (j : Fin 512) (h : Fin 8) (e : Fin 64) :
    kSlice m d (ix4 b j h e) = m ((dev0 : Thread nD τ).loc main_arg2) (ix4 b j (⟨8 * d.val + h.val, by have : d.val < 8 := d.isLt; omega⟩ : Fin 64) e) :=
  congrArg (m ((dev0 : Thread nD τ).loc main_arg2)) (funext fun a => match a with
    | ⟨0, _⟩ => Fin.ext (by show 0 + 1 * b.val = b.val; omega)
    | ⟨1, _⟩ => Fin.ext (by show 0 + 1 * j.val = j.val; omega)
    | ⟨2, _⟩ => Fin.ext (by show 8 * d.val + 1 * h.val = 8 * d.val + h.val; omega)
    | ⟨3, _⟩ => Fin.ext (by show 0 + 1 * e.val = e.val; omega))

/-- Device `d`'s slice of device 0's values likewise. -/
theorem vSlice_apply (m : (ℓ : Loc nD τ sig) → Buf (Elt Ideal) ℓ) (d : Dev nD) (b : Fin 2) (j : Fin 512) (h : Fin 8) (e : Fin 64) :
    vSlice m d (ix4 b j h e) = m ((dev0 : Thread nD τ).loc main_arg3) (ix4 b j (⟨8 * d.val + h.val, by have : d.val < 8 := d.isLt; omega⟩ : Fin 64) e) :=
  congrArg (m ((dev0 : Thread nD τ).loc main_arg3)) (funext fun a => match a with
    | ⟨0, _⟩ => Fin.ext (by show 0 + 1 * b.val = b.val; omega)
    | ⟨1, _⟩ => Fin.ext (by show 0 + 1 * j.val = j.val; omega)
    | ⟨2, _⟩ => Fin.ext (by show 8 * d.val + 1 * h.val = 8 * d.val + h.val; omega)
    | ⟨3, _⟩ => Fin.ext (by show 0 + 1 * e.val = e.val; omega))

/-! ## Values -/

theorem pay2_apply (x : FVec Ideal S1x512x768 .f32) (w : FVec Ideal S768x512 .f32) (i j : Fin 512) :
    k0_pay2 x w (ix3 0 i j) = ∑ d : Fin 768, x (ix3 0 i d) * w (ix2 d j) := by
  pointwise [k0_pay2]

theorem pay36_apply (x : FVec Ideal S1x512x512 .f32) (w : FVec Ideal S512x768 .f32) (i : Fin 512) (j : Fin 768) :
    k0_pay36 x w (ix3 0 i j) = ∑ d : Fin 512, x (ix3 0 i d) * w (ix2 d j) := by
  pointwise [k0_pay36]

/-- The named constant of the mask is `⊥`. -/
theorem mask_bot : (Named.named κ "mask" 0xCE6E6B28#32 : Ideal .f32) = ⊥ :=
  IdealRules.named_const.ideal_named_scalar _ _ _ _ rfl

/-- A head's context is masked softmax attention. -/
theorem headP_apply (q : FVec Ideal S1x512x64 .f32) (k v : FVec Ideal S1x512x1x64 .f32) (i : Fin 512) (e : Fin 64) :
    headP q k v (ix3 0 i e)
      = row i.val (fun d => q (ix3 0 i d)) (fun j : Fin 512 => fun d => k (ix4 0 j 0 d)) (fun j => v (ix4 0 j 0 e)) := by
  unfold headP
  pointwise [k0_pay8]
  simp only [Mask.kernel_mask, mask_bot, ninf]
  rfl

/-- The queries are the projection of the input. -/
theorem qB_apply (x : OutC Ideal) (wq : WqC Ideal) (b : Fin 2) (i n : Fin 512) :
    qB x wq (ix3 b i n) = ∑ e : Fin 768, x (ix3 b i e) * wq (ix2 e n) := by
  refine (pay2_apply (xP x b) (wqP wq) i n).trans ?_
  simp only [xP_apply, wqP_apply]

theorem ctxB_apply (fq : QC Ideal) (fk fv : KvC Ideal) (b : Fin 2) (i k : Fin 512) :
    ctxB fq fk fv (ix3 b i k)
      = row i.val (fun d => fq (ix3 b i ⟨64 * (k.val / 64) + d.val, by omega⟩))
          (fun j : Fin 512 => fun d => fk (ix4 b j ⟨k.val / 64, by omega⟩ d))
          (fun j => fv (ix4 b j ⟨k.val / 64, by omega⟩ ⟨k.val % 64, by omega⟩)) := by
  refine (headP_apply (qP fq b ⟨k.val / 64, by omega⟩) (kP fk b ⟨k.val / 64, by omega⟩) (vP fv b ⟨k.val / 64, by omega⟩)
    i ⟨k.val % 64, by omega⟩).trans ?_
  simp only [qP_apply, kP_apply, vP_apply]

/-- A device's partial output: its heads' context times its rows of the output weights. -/
theorem outB_apply (fq : QC Ideal) (fk fv : KvC Ideal) (fw : WoC Ideal) (b : Fin 2) (i : Fin 512) (n : Fin 768) :
    outB fq fk fv fw (ix3 b i n) = ∑ k : Fin 512, ctxB fq fk fv (ix3 b i k) * fw (ix2 k n) := by
  refine (pay36_apply (ctxP (ctxB fq fk fv) b) (woP fw) i n).trans ?_
  simp only [ctxP_apply, woP_apply]

end Cert.KProof

end
-- ==== Proof.RefRead.lean ====
/-
# The reference's output, entry by entry
-/
module

public import proofs.«01_k».proof.Proof.Row
public import proofs.«01_k».proof.Proof.Gen.ReferenceIdeal.Read
public import Idealize.ShloMosaic.Lib.Pointwise

@[expose] public section

noncomputable section

namespace Cert.RefRead

open Cert.ReferenceIdeal Cert.ReferenceIdeal.Gen Cert.ReferenceIdeal.Read
open Idealize.ShloMosaic Cert.Row
open scoped BigOperators

variable (x : FVec Ideal S2x512x768 .f32) (wq : FVec Ideal S768x4096 .f32) (k v : FVec Ideal S2x4096x64x64 .f32)
  (wo : FVec Ideal S4096x768 .f32)

/-- The query projection, at one coordinate of one head. -/
def query (b : Fin 2) (i : Fin 512) (h d : Fin 64) : EReal :=
  ∑ e : Fin 768, x (ix3 b i e) * wq (ix2 e (⟨h.val * 64 + d.val, by omega⟩ : Fin 4096))

theorem q_apply (b : Fin 2) (i : Fin 512) (h d : Fin 64) : val_main_v1 (F := Ideal) x wq (ix4 b i h d) = query x wq b i h d := by
  pointwise [val_main_v1, val_main_v0]
  rfl

theorem t_apply (b : Fin 2) (h : Fin 64) (i : Fin 512) (j : Fin 4096) :
    val_main_v15 (F := Ideal) x wq k (ix4 b h i j) = score i.val (query x wq b i h) (fun d => k (ix4 b j h d)) j.val := by
  pointwise [val_main_v15, val_main_call2_v1, val_main_v14, val_main_v13, val_main_call2_v2, val_main_call2_v0, val_main_cst_1,
    val_main_v12, val_main_cst, val_main_v11]
  rw [Mask.ref_mask]
  simp only [q_apply]
  exact congrArg (Scalar.select _ _) ninf

theorem e_apply (b : Fin 2) (h : Fin 64) (i : Fin 512) (j : Fin 4096) :
    val_main_v20 (F := Ideal) x wq k (ix4 b h i j)
      = Ideal.exp (score i.val (query x wq b i h) (fun d => k (ix4 b j h d)) j.val
          - Softmax.top fun j : Fin 4096 => score i.val (query x wq b i h) (fun d => k (ix4 b j h d)) j.val) := by
  pointwise [val_main_v20, val_main_v19, val_main_v18, val_main_v17, val_main_v16]
  simp only [t_apply]
  have e : (val_main_cst_2 (F := Ideal) (Shape.Idx.first h_S_)) = (⊥ : EReal) := ninf
  rw [e]
  rfl

theorem w_apply (b : Fin 2) (h : Fin 64) (i : Fin 512) (j : Fin 4096) :
    val_main_v29 (F := Ideal) x wq k (ix4 b h i j)
      = Ideal.div (val_main_v20 (F := Ideal) x wq k (ix4 b h i j)) (∑ j' : Fin 4096, val_main_v20 (F := Ideal) x wq k (ix4 b h i j')) := by
  pointwise [val_main_v29, val_main_v28, val_main_v27, val_main_v26, val_main_v25, val_main_v24, val_main_v23, val_main_v22,
    val_main_call3_v1, val_main_call3_v2, val_main_call4_v1, val_main_call4_v2, val_main_call3_v0, val_main_call4_v0,
    val_main_cst_4, val_main_cst_5, val_main_cst_6]
  rw [Mask.ref_keep]
  rfl

theorem ctx_apply (b : Fin 2) (i : Fin 512) (n : Fin 4096) :
    val_main_v32 (F := Ideal) x wq k v (ix3 b i n)
      = row i.val (query x wq b i ⟨n.val / 64, by omega⟩) (fun j : Fin 4096 => fun d => k (ix4 b j ⟨n.val / 64, by omega⟩ d))
          (fun j => v (ix4 b j ⟨n.val / 64, by omega⟩ ⟨n.val % 64, by omega⟩)) := by
  pointwise [val_main_v32, val_main_v31, val_main_v30]
  simp only [w_apply, e_apply]
  exact Finset.sum_congr rfl fun j _ => mul_comm _ _

/-- The reference's output: every head's context times its rows of the output weights. -/
theorem out_apply (b : Fin 2) (i : Fin 512) (n : Fin 768) :
    val_main_v33 (F := Ideal) x wq k v wo (ix3 b i n)
      = ∑ q : Fin 4096, row i.val (query x wq b i ⟨q.val / 64, by omega⟩) (fun j : Fin 4096 => fun d => k (ix4 b j ⟨q.val / 64, by omega⟩ d))
          (fun j => v (ix4 b j ⟨q.val / 64, by omega⟩ ⟨q.val % 64, by omega⟩)) * wo (ix2 q n) := by
  pointwise [val_main_v33]
  simp only [ctx_apply]

end Cert.RefRead

end
-- ==== Proof.Algebraic.lean ====
/-
# The kernel's sum of partial outputs is the reference's output
-/
module

public import proofs.«01_k».proof.Proof.KernelRead
public import proofs.«01_k».proof.Proof.RefRead
public import proofs.«01_k».proof.Proof.Finite
public import proofs.«01_k».proof.Proof.Gen.KernelIdeal
public import proofs.«01_k».proof.Proof.Gen.ReferenceIdeal
public import proofs.«01_k».proof.Proof.Gen.ReferenceIdeal.Run

@[expose] public section

noncomputable section

namespace Cert.Algebraic

open Idealize.ShloMosaic Idealize.SL.Sem Cert.Softmax Cert.Row
open scoped BigOperators

/-! ## The all-reduce -/

/-- The eight partners that three rounds of pairwise exchange reach are the eight devices. -/
theorem reach (c : Fin 8) :
    [c, KProof.prt 0 c, KProof.prt 1 c, KProof.prt 0 (KProof.prt 1 c), KProof.prt 2 c, KProof.prt 0 (KProof.prt 2 c),
      KProof.prt 1 (KProof.prt 2 c), KProof.prt 0 (KProof.prt 1 (KProof.prt 2 c))].Perm (List.finRange 8) := by
  revert c; decide

/-- After the three rounds every device holds the sum of all partial outputs. -/
theorem acc_sum (a : Fin 8 → KProof.OutC Ideal) (c : Fin 8) (y : Cert.KernelIdeal.S2x512x768.Idx) :
    KProof.acc (F := Ideal) a 3 c y = ∑ d : Fin 8, a d y := by
  rw [Fin.sum_univ_def, ← ((reach c).map fun d => a d y).sum_eq]
  simp only [List.map_cons, List.map_nil, List.sum_cons, List.sum_nil, add_zero]
  show ((a c y + a (KProof.prt 0 c) y) + (a (KProof.prt 1 c) y + a (KProof.prt 0 (KProof.prt 1 c)) y))
    + ((a (KProof.prt 2 c) y + a (KProof.prt 0 (KProof.prt 2 c)) y)
      + (a (KProof.prt 1 (KProof.prt 2 c)) y + a (KProof.prt 0 (KProof.prt 1 (KProof.prt 2 c))) y)) = _
  simp only [add_assoc]

/-- A sum over all columns is the sum over the devices of the sums over a device's columns. -/
theorem sum_blocks (g : Fin 4096 → EReal) :
    ∑ q, g q = ∑ c : Fin 8, ∑ k : Fin 512, g ⟨512 * c.val + k.val, by omega⟩ := by
  rw [← Equiv.sum_comp (finProdFinEquiv (m := 8) (n := 512)) g, Fintype.sum_prod_type]
  refine Finset.sum_congr rfl fun c _ => Finset.sum_congr rfl fun k _ => congrArg g (Fin.ext ?_)
  show k.val + 512 * c.val = 512 * c.val + k.val
  omega

/-! ## The values -/

section Value

variable (m : (ℓ : Loc Cert.KernelIdeal.nD Cert.KernelIdeal.τ Cert.KernelIdeal.sig) → Buf (Elt Ideal) ℓ)
  (x : FVec Ideal Cert.ReferenceIdeal.S2x512x768 .f32) (wq : FVec Ideal Cert.ReferenceIdeal.S768x4096 .f32)
  (k v : FVec Ideal Cert.ReferenceIdeal.S2x4096x64x64 .f32) (wo : FVec Ideal Cert.ReferenceIdeal.S4096x768 .f32)

/-- Each device's operands are its part of the whole arrays. -/
def Parts : Prop := ∀ c : Dev Cert.KernelIdeal.nD,
  m ((c.tc : Thread Cert.KernelIdeal.nD Cert.KernelIdeal.τ).loc Cert.KernelIdeal.main_arg0) = x
  ∧ m ((c.tc : Thread Cert.KernelIdeal.nD Cert.KernelIdeal.τ).loc Cert.KernelIdeal.main_arg1) = Layout.block ⟨2, ![768, 512]⟩ ⟨2, ![768, 4096]⟩ 1 8 c wq
  ∧ m ((c.tc : Thread Cert.KernelIdeal.nD Cert.KernelIdeal.τ).loc Cert.KernelIdeal.main_arg2) = Layout.block ⟨4, ![2, 512, 64, 64]⟩ ⟨4, ![2, 4096, 64, 64]⟩ 1 8 c k
  ∧ m ((c.tc : Thread Cert.KernelIdeal.nD Cert.KernelIdeal.τ).loc Cert.KernelIdeal.main_arg3) = Layout.block ⟨4, ![2, 512, 64, 64]⟩ ⟨4, ![2, 4096, 64, 64]⟩ 1 8 c v
  ∧ m ((c.tc : Thread Cert.KernelIdeal.nD Cert.KernelIdeal.τ).loc Cert.KernelIdeal.main_arg4) = Layout.block ⟨2, ![512, 768]⟩ ⟨2, ![4096, 768]⟩ 0 8 c wo

/-- Device `c`'s query weights are columns `512c …` of the whole. -/
theorem block_wq (c : Fin 8) (e : Fin 768) (n : Fin 512) :
    Layout.block ⟨2, ![768, 512]⟩ ⟨2, ![768, 4096]⟩ 1 8 c wq (by decide) (ix2 e n) = wq (ix2 e (⟨512 * c.val + n.val, by omega⟩ : Fin 4096)) :=
  congrArg wq (funext fun a => match a with
    | ⟨0, _⟩ => rfl
    | ⟨1, _⟩ => Fin.ext (by show c.val * 512 + n.val = 512 * c.val + n.val; omega))

/-- Device `c`'s output weights are rows `512c …` of the whole. -/
theorem block_wo (c : Fin 8) (q : Fin 512) (n : Fin 768) :
    Layout.block ⟨2, ![512, 768]⟩ ⟨2, ![4096, 768]⟩ 0 8 c wo (by decide) (ix2 q n) = wo (ix2 (⟨512 * c.val + q.val, by omega⟩ : Fin 4096) n) :=
  congrArg wo (funext fun a => match a with
    | ⟨0, _⟩ => Fin.ext (by show c.val * 512 + q.val = 512 * c.val + q.val; omega)
    | ⟨1, _⟩ => rfl)

/-- Device 0's keys (or values) are the first 512 rows of the whole. -/
theorem block_kv (b : Fin 2) (j : Fin 512) (h d : Fin 64) :
    Layout.block ⟨4, ![2, 512, 64, 64]⟩ ⟨4, ![2, 4096, 64, 64]⟩ 1 8 (0 : Fin 8) k (by decide) (ix4 b j h d)
      = k (ix4 b (Fin.castAdd 3584 j : Fin (512 + 3584)) h d) :=
  congrArg k (funext fun a => match a with
    | ⟨0, _⟩ => rfl
    | ⟨1, _⟩ => Fin.ext (by show 0 * 512 + j.val = j.val; omega)
    | ⟨2, _⟩ => rfl
    | ⟨3, _⟩ => rfl)

variable (hp : Parts m x wq k v wo)
include hp

/-- A device's partial output is its columns' share of the reference's last product, where the scores are real. -/
theorem part_apply (hx : ∀ y, IsReal (x y)) (hwq : ∀ y, IsReal (wq y))
    (hk : ∀ (b : Fin 2) (j : Fin 512) (h d : Fin 64), IsReal (k (ix4 b (Fin.castAdd 3584 j : Fin (512 + 3584)) h d)))
    (c : Fin 8) (b : Fin 2) (i : Fin 512) (n : Fin 768) :
    KProof.part (F := Ideal) m c (ix3 b i n)
      = ∑ q : Fin 512, row i.val (RefRead.query x wq b i ⟨(512 * c.val + q.val) / 64, by omega⟩)
          (fun j : Fin 4096 => fun d => k (ix4 b j ⟨(512 * c.val + q.val) / 64, by omega⟩ d))
          (fun j => v (ix4 b j ⟨(512 * c.val + q.val) / 64, by omega⟩ ⟨(512 * c.val + q.val) % 64, by omega⟩))
          * wo (ix2 (⟨512 * c.val + q.val, by omega⟩ : Fin 4096) n) := by
  unfold KProof.part
  refine (KProof.outB_apply _ _ _ _ b i n).trans (Finset.sum_congr rfl fun q _ => ?_)
  obtain ⟨h0, h1, -, -, h4⟩ := hp c
  obtain ⟨-, -, h2, h3, -⟩ := hp KProof.dev0
  rw [KProof.ctxB_apply]
  refine congrArg₂ (· * ·) ?_ ?_
  · have hq : ∀ d, IsReal (RefRead.query x wq b i ⟨(512 * c.val + q.val) / 64, by omega⟩ d) := fun d =>
      IsReal.sum _ _ fun e _ => (hx _).mul (hwq _)
    refine Eq.trans ?_ (row_append (n := 3584) i.val i.isLt _ _ _ hq fun j d => hk b j _ d).symm
    have eh : (⟨8 * c.val + q.val / 64, by omega⟩ : Fin 64) = ⟨(512 * c.val + q.val) / 64, by omega⟩ := Fin.ext (by show 8 * c.val + q.val / 64 = (512 * c.val + q.val) / 64; omega)
    have ed : (⟨q.val % 64, by omega⟩ : Fin 64) = ⟨(512 * c.val + q.val) % 64, by omega⟩ := Fin.ext (by show q.val % 64 = (512 * c.val + q.val) % 64; omega)
    have e1 : (fun d : Fin 64 => KProof.qB (F := Ideal) (m ((Dev.tc c : Thread Cert.KernelIdeal.nD Cert.KernelIdeal.τ).loc Cert.KernelIdeal.main_arg0))
        (m ((Dev.tc c : Thread Cert.KernelIdeal.nD Cert.KernelIdeal.τ).loc Cert.KernelIdeal.main_arg1)) (ix3 b i ⟨64 * (q.val / 64) + d.val, by omega⟩))
        = RefRead.query x wq b i ⟨(512 * c.val + q.val) / 64, by omega⟩ := by
      funext d
      rw [KProof.qB_apply, h0, h1]
      refine Finset.sum_congr rfl fun e _ => congrArg (x (ix3 b i e) * ·) ((block_wq wq c e _).trans (congrArg (fun z => wq (ix2 e z)) (Fin.ext ?_)))
      show 512 * c.val + (64 * (q.val / 64) + d.val) = (512 * c.val + q.val) / 64 * 64 + d.val
      omega
    have e2 : (fun j : Fin 512 => fun d : Fin 64 => KProof.kSlice (F := Ideal) m c (ix4 b j ⟨q.val / 64, by omega⟩ d))
        = fun j d => k (ix4 b (Fin.castAdd 3584 j : Fin (512 + 3584)) ⟨(512 * c.val + q.val) / 64, by omega⟩ d) := by
      funext j d
      rw [KProof.kSlice_apply, ← eh]
      exact (congrFun h2 _).trans (block_kv k b j _ d)
    have e3 : (fun j : Fin 512 => KProof.vSlice (F := Ideal) m c (ix4 b j ⟨q.val / 64, by omega⟩ ⟨q.val % 64, by omega⟩))
        = fun j => v (ix4 b (Fin.castAdd 3584 j : Fin (512 + 3584)) ⟨(512 * c.val + q.val) / 64, by omega⟩ ⟨(512 * c.val + q.val) % 64, by omega⟩) := by
      funext j
      rw [KProof.vSlice_apply, ← eh, ← ed]
      exact (congrFun h3 _).trans (block_kv v b j _ _)
    exact congr (congrArg₂ (row i.val) e1 e2) e3
  · exact (congrFun h4 _).trans (block_wo wo c q n)

/-- Every device's result is the reference's output. -/
theorem result (hx : ∀ y, IsReal (x y)) (hwq : ∀ y, IsReal (wq y))
    (hk : ∀ (b : Fin 2) (j : Fin 512) (h d : Fin 64), IsReal (k (ix4 b (Fin.castAdd 3584 j : Fin (512 + 3584)) h d)))
    (c : Fin 8) : KProof.acc (KProof.part (F := Ideal) m) 3 c = Cert.ReferenceIdeal.Read.val_main_v33 (F := Ideal) x wq k v wo := by
  funext y
  obtain ⟨b, i, n, rfl⟩ : ∃ (b : Fin 2) (i : Fin 512) (n : Fin 768), y = ix3 b i n := ⟨_, _, _, eq_ix3 y⟩
  refine (acc_sum _ c _).trans (Eq.trans ?_ ((RefRead.out_apply x wq k v wo b i n).trans (sum_blocks _)).symm)
  exact Finset.sum_congr rfl fun d _ => part_apply m x wq k v wo hp hx hwq hk d b i n

end Value

/-- Where every device's input, query weights and keys are real, the kernel's result on every device is the reference's. -/
theorem algebraic : Cert.algebraic_KernelIdeal_ReferenceIdeal_pre_scores_finite_KernelIdeal
    (hKernelIdeal := Cert.KernelIdeal.Gen.facts) (hReferenceIdeal := Cert.ReferenceIdeal.Gen.facts)
    (hPre_scores_finite_KernelIdeal := Finite.kernelFacts) := by
  intro m g m' g' hpre hp
  have hreal := fun c : Fin 8 => Finite.of_pre (hF := Finite.kernelFacts) _ _ _ _ _ (hpre c)
  have hx : ∀ y, IsReal (m' (((0 : Dev Cert.ReferenceIdeal.nD).tc : Thread Cert.ReferenceIdeal.nD Cert.ReferenceIdeal.τ).loc Cert.ReferenceIdeal.main_arg0) y) :=
    fun y => (congrFun (hp 0).1 y) ▸ (hreal 0).1 y
  have hwq : ∀ y, IsReal (m' (((0 : Dev Cert.ReferenceIdeal.nD).tc : Thread Cert.ReferenceIdeal.nD Cert.ReferenceIdeal.τ).loc Cert.ReferenceIdeal.main_arg1) y) := by
    intro y
    obtain ⟨e, n, rfl⟩ : ∃ (e : Fin 768) (n : Fin 4096), y = ix2 e n := ⟨_, _, eq_ix2 y⟩
    have h := (hreal ⟨n.val / 512, by omega⟩).2.1 (ix2 e (⟨n.val % 512, by omega⟩ : Fin 512))
    have e' := (congrFun (hp ⟨n.val / 512, by show _ < 8; omega⟩).2.1 (ix2 e (⟨n.val % 512, by omega⟩ : Fin 512))).trans
      (block_wq _ (⟨n.val / 512, by omega⟩ : Fin 8) e ⟨n.val % 512, by omega⟩)
    have en : (⟨512 * (n.val / 512) + n.val % 512, by omega⟩ : Fin 4096) = n := Fin.ext (by show 512 * (n.val / 512) + n.val % 512 = n.val; omega)
    rw [en] at e'
    exact e' ▸ h
  have hk : ∀ (b : Fin 2) (j : Fin 512) (h d : Fin 64),
      IsReal (m' (((0 : Dev Cert.ReferenceIdeal.nD).tc : Thread Cert.ReferenceIdeal.nD Cert.ReferenceIdeal.τ).loc Cert.ReferenceIdeal.main_arg2) (ix4 b (Fin.castAdd 3584 j : Fin (512 + 3584)) h d)) :=
    fun b j h d => ((congrFun (hp 0).2.2.1 (ix4 b j h d)).trans (block_kv _ b j h d)) ▸ (hreal 0).2.2 (ix4 b j h d)
  have hv := fun c : Fin 8 => (result m _ _ _ _ _ hp hx hwq hk c).trans (Cert.ReferenceIdeal.Read.val_main_v33_eq m' 0).symm
  exact ⟨Cert.ReferenceIdeal.Value.res_main_v33 m' 0,
    (θ_run _ _ _).mono (fun r h c => ⟨(h.1 c).trans (hv c), h.2.1 c⟩) (KProof.run_value (F := Ideal) m g),
    (θ_run _ _ _).mono (fun r h => h 0) (Cert.ReferenceIdeal.Value.run (F := Ideal) m' g')⟩

end Cert.Algebraic

end
-- ==== Proof.lean ====
/-
# The certificate

The claims of `Defs.lean`, each from the module that proves it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Finite
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All the claims hold. -/
theorem claim : Cert.Claim :=
  ⟨Cert.Kernel.Gen.facts, Cert.KernelIdeal.Gen.facts, Cert.ReferenceIdeal.Gen.facts, Cert.Finite.kernelFacts, Cert.Finite.referenceFacts,
    Cert.Frames.kernel, Cert.Frames.kernelIdeal, fun m g _ => Cert.Frames.kernelIdeal m g trivial,
    Cert.Frames.referenceIdeal, fun m g _ => Cert.Frames.referenceIdeal m g trivial,
    Cert.Frames.preserves, Cert.Algebraic.algebraic⟩

end Cert.Proof

end
